-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = Layout.block ⟨2, ![64, 512]⟩ ⟨2, ![512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S_ : Shape := ⟨0, ![]⟩
abbrev S4 : Shape := ⟨1, ![4]⟩
abbrev S1x4 : Shape := ⟨2, ![1, 4]⟩
abbrev S512x4 : Shape := ⟨2, ![512, 4]⟩
abbrev S64x512 : Shape := ⟨2, ![64, 512]⟩
abbrev S512x512 : Shape := ⟨2, ![512, 512]⟩
abbrev S8x64x512 : Shape := ⟨3, ![8, 64, 512]⟩
abbrev S8 : Shape := ⟨1, ![8]⟩
abbrev S1x256x512 : Shape := ⟨3, ![1, 256, 512]⟩
abbrev S256x512 : Shape := ⟨2, ![256, 512]⟩
abbrev S1x64x512 : Shape := ⟨3, ![1, 64, 512]⟩
abbrev S1 : Shape := ⟨1, ![1]⟩

abbrev nBuf : Space → Nat
  | .hbm => 33
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S4x256x512, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S4, .i32⟩
  | .hbm, ⟨15, _⟩ => ⟨S1x4, .i32⟩
  | .hbm, ⟨16, _⟩ => ⟨S512x4, .i32⟩
  | .hbm, ⟨17, _⟩ => ⟨S512x4, .i32⟩
  | .hbm, ⟨18, _⟩ => ⟨S512x4, .i1⟩
  | .hbm, ⟨19, _⟩ => ⟨S512x4, .i32⟩
  | .hbm, ⟨20, _⟩ => ⟨S_, .i32⟩
  | .hbm, ⟨21, _⟩ => ⟨S_, .i32⟩
  | .hbm, ⟨22, _⟩ => ⟨S512x4, .i32⟩
  | .hbm, ⟨23, _⟩ => ⟨S512x4, .i32⟩
  | .hbm, ⟨24, _⟩ => ⟨S_, .i32⟩
  | .hbm, ⟨25, _⟩ => ⟨S512x4, .i32⟩
  | .hbm, ⟨26, _⟩ => ⟨S512x4, .i1⟩
  | .hbm, ⟨27, _⟩ => ⟨S_, .i32⟩
  | .hbm, ⟨28, _⟩ => ⟨S512x4, .i32⟩
  | .hbm, ⟨29, _⟩ => ⟨S512x4, .i1⟩
  | .hbm, ⟨30, _⟩ => ⟨S512x4, .i1⟩
  | .hbm, ⟨31, _⟩ => ⟨S512x4, .f32⟩
  | .hbm, ⟨32, _⟩ => ⟨S64x512, .f32⟩
  | .local _ .vmem, ⟨0, _⟩ => ⟨S512x256, .bf16⟩
  | .local _ .vmem, ⟨1, _⟩ => ⟨S512x4, .f32⟩
  | .local _ .vmem, ⟨2, _⟩ => ⟨S4x256x512, .bf16⟩
  | .local _ .vmem, ⟨3, _⟩ => ⟨S64x512, .f32⟩
  | .local _ .vmem, ⟨4, _⟩ => ⟨S512x512, .f32⟩
  | .local _ .vmem, ⟨5, _⟩ => ⟨S8x64x512, .f32⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_call0_c : Ref sig .tc := ⟨.hbm, 20, rfl⟩
abbrev main_call0_call0_v0 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v78 : BitVec 32 := Scalar.muli v2 c64_i32
  let v79 : Index := Scalar.indexCast v78
  let c0_53 : Index := 0#32
  ![v79.toNat, 0]
def k0_off2 (d0 : Dev nD) (c1_i32_57 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v84 : BitVec 32 := Scalar.addi v2 c1_i32_57
  let c8_i32_58 : BitVec 32 := 8#32
  let v85 : BitVec 32 := Scalar.remsi v84 c8_i32_58
  let c64_i32_59 : BitVec 32 := 64#32
  let v86 : BitVec 32 := Scalar.muli v85 c64_i32_59
  let c0_i32_67 : BitVec 32 := 0#32
  ![v86.toNat, 0]
def k0_dev8 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_57 : BitVec 32 := 1#32
  let v84 : BitVec 32 := Scalar.addi v2 c1_i32_57
  let c8_i32_58 : BitVec 32 := 8#32
  let v85 : BitVec 32 := Scalar.remsi v84 c8_i32_58
  let c1_i32_63 : BitVec 32 := 1#32
  let v87 : BitVec 32 := Scalar.muli v85 c1_i32_63
  let v88 : BitVec 32 := Scalar.addi c0_i32_64 v87
  v88.toNat
def k0_dev9 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_68 : BitVec 32 := 2#32
  let v96 : BitVec 32 := Scalar.addi v2 c2_i32_68
  let c8_i32_69 : BitVec 32 := 8#32
  let v97 : BitVec 32 := Scalar.remsi v96 c8_i32_69
  let c1_i32_74 : BitVec 32 := 1#32
  let v99 : BitVec 32 := Scalar.muli v97 c1_i32_74
  let v100 : BitVec 32 := Scalar.addi c0_i32_75 v99
  v100.toNat
def k0_dev10 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_79 : BitVec 32 := 3#32
  let v108 : BitVec 32 := Scalar.addi v2 c3_i32_79
  let c8_i32_80 : BitVec 32 := 8#32
  let v109 : BitVec 32 := Scalar.remsi v108 c8_i32_80
  let c1_i32_85 : BitVec 32 := 1#32
  let v111 : BitVec 32 := Scalar.muli v109 c1_i32_85
  let v112 : BitVec 32 := Scalar.addi c0_i32_86 v111
  v112.toNat
def k0_dev11 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_90 : BitVec 32 := 4#32
  let v120 : BitVec 32 := Scalar.addi v2 c4_i32_90
  let c8_i32_91 : BitVec 32 := 8#32
  let v121 : BitVec 32 := Scalar.remsi v120 c8_i32_91
  let c1_i32_96 : BitVec 32 := 1#32
  let v123 : BitVec 32 := Scalar.muli v121 c1_i32_96
  let v124 : BitVec 32 := Scalar.addi c0_i32_97 v123
  v124.toNat
def k0_dev12 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_101 : BitVec 32 := 5#32
  let v132 : BitVec 32 := Scalar.addi v2 c5_i32_101
  let c8_i32_102 : BitVec 32 := 8#32
  let v133 : BitVec 32 := Scalar.remsi v132 c8_i32_102
  let c1_i32_107 : BitVec 32 := 1#32
  let v135 : BitVec 32 := Scalar.muli v133 c1_i32_107
  let v136 : BitVec 32 := Scalar.addi c0_i32_108 v135
  v136.toNat
def k0_dev13 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_112 : BitVec 32 := 6#32
  let v144 : BitVec 32 := Scalar.addi v2 c6_i32_112
  let c8_i32_113 : BitVec 32 := 8#32
  let v145 : BitVec 32 := Scalar.remsi v144 c8_i32_113
  let c1_i32_118 : BitVec 32 := 1#32
  let v147 : BitVec 32 := Scalar.muli v145 c1_i32_118
  let v148 : BitVec 32 := Scalar.addi c0_i32_119 v147
  v148.toNat
def k0_dev14 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_123 : BitVec 32 := 7#32
  let v156 : BitVec 32 := Scalar.addi v2 c7_i32_123
  let c8_i32_124 : BitVec 32 := 8#32
  let v157 : BitVec 32 := Scalar.remsi v156 c8_i32_124
  let c1_i32_129 : BitVec 32 := 1#32
  let v159 : BitVec 32 := Scalar.muli v157 c1_i32_129
  let v160 : BitVec 32 := Scalar.addi c0_i32_130 v159
  v160.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S512 : Shape := ⟨1, ![512]⟩
abbrev S1x512 : Shape := ⟨2, ![1, 512]⟩
abbrev S512x512 : Shape := ⟨2, ![512, 512]⟩
abbrev S_ : Shape := ⟨0, ![]⟩
abbrev S512x256x512 : Shape := ⟨3, ![512, 256, 512]⟩

abbrev nBuf : Space → Nat
  | .hbm => 42
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S32x256x512, .bf16⟩
  | .hbm, ⟨4, _⟩ => ⟨S512, .i32⟩
  | .hbm, ⟨5, _⟩ => ⟨S512, .i32⟩
  | .hbm, ⟨6, _⟩ => ⟨S512x1, .i32⟩
  | .hbm, ⟨7, _⟩ => ⟨S1x512, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S1x512, .i32⟩
  | .hbm, ⟨12, _⟩ => ⟨S512x1, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x512, .i32⟩
  | .hbm, ⟨18, _⟩ => ⟨S_, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S512, .i1⟩
  | .hbm, ⟨31, _⟩ => ⟨S512x1, .i32⟩
  | .hbm, ⟨32, _⟩ => ⟨S512x256x512, .bf16⟩
  | .hbm, ⟨33, _⟩ => ⟨S512x256x512, .f32⟩
  | .hbm, ⟨34, _⟩ => ⟨S512x256, .f32⟩
  | .hbm, ⟨35, _⟩ => ⟨S512x512, .f32⟩
  | .hbm, ⟨36, _⟩ => ⟨S512x1, .i1⟩
  | .hbm, ⟨37, _⟩ => ⟨S_, .f32⟩
  | .hbm, ⟨38, _⟩ => ⟨S_, .f32⟩
  | .hbm, ⟨39, _⟩ => ⟨S512x512, .i1⟩
  | .hbm, ⟨40, _⟩ => ⟨S512x512, .f32⟩
  | .hbm, ⟨41, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Proof.Proto.lean ====
/-
  The protocol of the kernel: who signals and copies to whom, how much, and what each landing hands over.

  Device `c` writes transfer `k` (k = 0 … 6) from the rows of its partial product that belong to device `rot c k`
  into slot `k + 1` of that device's receive buffer. Before it may, `rot c k` has signalled `c`'s barrier semaphore:
  that signal hands `c` the slot.

    barrier cell of `d`   seven duties of one unit, duty `j` paid by device `rot d j`, which hands over its slot `j + 1`
    send cell `(c, k)`    one duty, paid by `c`'s own transfer `k`: the source rows come back
    receive cell `(t, k)` one duty, paid by the transfer `k` of the device `c` with `rot c k = t`: slot `k + 1` of `t`
                          comes back holding that device's rows for `t`
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Launch
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.Lib.ValueLayout
public import Idealize.ShloMosaic.Lib.ValueIdxCoords

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra -/

/-- The protocol's rounds: seven duty names per cell. -/
abbrev UB : Type := URounds (GSem nD τ sig) (Fin 7)
abbrev UU : Type := UR sig nD τ × UB
abbrev 𝕄 (F : FTy → Type) : Type := MT nD τ sig Unit (Elt F) ℕ UU ℕ
abbrev EP : Emb (UR sig nD τ) (𝕄 F) := embL
abbrev ER : Emb UB (𝕄 F) := embR

/-! ## Who talks to whom -/

/-- The device transfer `k` of device `c` goes to. -/
def rot (c : Dev nD) (k : Fin 7) : Dev nD := ⟨(c.val + k.val + 1) % 8, Nat.mod_lt _ (by decide)⟩

theorem rot_rev (c : Dev nD) (k : Fin 7) : rot (rot c k) k.rev = c := by revert c k; decide
theorem rot_rev' (c : Dev nD) (k : Fin 7) : rot (rot c k.rev) k = c := by revert c k; decide
theorem rot_inj (k : Fin 7) : Function.Injective (fun c => rot c k) := fun a b h => by
  rw [← rot_rev a k, ← rot_rev b k]; exact congrArg (fun d => rot d k.rev) h

/-- Turning the ring of devices by `k + 1`. -/
def turn (k : Fin 7) : Dev nD ≃ Dev nD := ⟨fun c => rot c k, fun c => rot c k.rev, fun c => rot_rev c k, fun c => rot_rev' c k⟩

/-! ## Memrefs, semaphores, cells -/

abbrev xM : Memref sig .tc .vmem S512x256 .bf16 := Memref.whole cc0_stg0_0
abbrev kM : Memref sig .tc .vmem S512x4 .f32 := Memref.whole cc0_stg1_0
abbrev wM : Memref sig .tc .vmem S4x256x512 .bf16 := Memref.whole cc0_stg2_0
abbrev oM : Memref sig .tc .vmem S64x512 .f32 := Memref.whole cc0_stg3_0
abbrev pM : Memref sig .tc .vmem S512x512 .f32 := Memref.whole cc0_scratch0
abbrev rM : Memref sig .tc .vmem S8x64x512 .f32 := Memref.whole cc0_scratch1

abbrev barS : Sem sig := (SemArray.scalar (sig.barrier 0 rfl) : Sems sig S_).sem
/-- The send and receive semaphores of transfer `k`. -/
abbrev sendS (k : Fin 7) : DmaSem sig := ⟨5 + k.val, by have := k.isLt; show 5 + k.val < 20; omega⟩
abbrev recvS (k : Fin 7) : DmaSem sig := ⟨13 + k.val, by have := k.isLt; show 13 + k.val < 20; omega⟩

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

theorem off_slot (k : Fin 7) : ∀ a, (![k.val + 1, 0, 0] : Fin 3 → Nat) a + S1x64x512.size a ≤ S8x64x512.size a := by
  revert k; decide

/-- Source of transfer `k` on device `c`; destination (on the receiving device). -/
abbrev srcM (c : Dev nD) (k : Fin 7) : Memref sig .tc .vmem S64x512 .f32 :=
  pM.slice (Rect.unit (s := S512x512) (k0_off2 c (BitVec.ofNat 32 (1 + k.val))) S64x512.size (k0_off2_inb c k)) (fun _ => rfl)
abbrev dstM (k : Fin 7) : Memref sig .tc .vmem S64x512 .f32 :=
  (rM.slice (Rect.unit (s := S8x64x512) ![k.val + 1, 0, 0] S1x64x512.size (off_slot k)) (fun _ => rfl)).squeeze S64x512 squeezes_S1x64x512_S64x512

abbrev N : ℕ := (oM : Memref sig .tc .vmem S64x512 .f32).view.dmaCredit
theorem N_pos : 0 < N := View.dmaCredit_pos _ (by decide)

/-! ## Regions of the two scratch buffers -/

/-- The rows of the partial product that belong to device `d`; slot `s` of the receive buffer. -/
def rows (d : Dev nD) : Finset S512x512.Idx := Finset.univ.filter fun i => (i 0).val / 64 = d.val
def slot (s : Fin 8) : Finset S8x64x512.Idx := Finset.univ.filter fun i => (i 0).val = s.val

theorem mem_rows {d : Dev nD} {i : S512x512.Idx} : i ∈ rows d ↔ (i 0).val / 64 = d.val := by simp [rows]
theorem mem_slot {s : Fin 8} {i : S8x64x512.Idx} : i ∈ slot s ↔ (i 0).val = s.val := by simp [slot]

theorem off2_val (c : Dev nD) (k : Fin 7) : k0_off2 c (BitVec.ofNat 32 (1 + k.val)) = ![64 * (rot c k).val, 0] := by
  rw [k0_off2_eq]; unfold rot; congr 3

theorem mem_band {o : ℕ} {inb} {i : S512x512.Idx} :
    i ∈ (Rect.unit (s := S512x512) ![64 * o, 0] S64x512.size inb).set ↔ (i 0).val / 64 = o := by
  rw [Rect.mem_set_unit]
  have h1 : (i 1).val < 512 := (i 1).isLt
  constructor
  · intro h
    have h0 := h 0
    simp only [S64x512, Matrix.cons_val_zero] at h0
    omega
  · intro h a
    match a with
    | ⟨0, _⟩ => show 64 * o ≤ (i 0).val ∧ (i 0).val < 64 * o + 64; omega
    | ⟨1, _⟩ => show 0 ≤ (i 1).val ∧ (i 1).val < 0 + 512; omega

theorem mem_slab {o : ℕ} {inb} {i : S8x64x512.Idx} :
    i ∈ (Rect.unit (s := S8x64x512) ![o, 0, 0] S1x64x512.size inb).set ↔ (i 0).val = o := by
  rw [Rect.mem_set_unit]
  have h1 : (i 1).val < 64 := (i 1).isLt
  have h2 : (i 2).val < 512 := (i 2).isLt
  constructor
  · intro h
    have h0 := h 0
    simp only [S1x64x512, Matrix.cons_val_zero] at h0
    omega
  · intro h a
    match a with
    | ⟨0, _⟩ => show o ≤ (i 0).val ∧ (i 0).val < o + 1; omega
    | ⟨1, _⟩ => show 0 ≤ (i 1).val ∧ (i 1).val < 0 + 64; omega
    | ⟨2, _⟩ => show 0 ≤ (i 2).val ∧ (i 2).val < 0 + 512; omega

theorem src_set (c : Dev nD) (k : Fin 7) : (srcM c k).view.set = rows (rot c k) := by
  show ((View.whole cc0_scratch0).slice _).set = _
  rw [View.set_slice_whole]
  ext i
  rw [mem_rows]
  have h := off2_val c k
  revert h
  generalize hh : k0_off2_inb c k = inb
  clear hh
  revert inb
  generalize k0_off2 c (BitVec.ofNat 32 (1 + k.val)) = o
  intro inb h
  subst h
  exact mem_band

theorem dst_set (k : Fin 7) : (dstM k).view.set = slot k.succ := by
  show (((View.whole cc0_scratch1).slice _).reshape _ _).set = _
  rw [View.set_reshape, View.set_slice_whole]
  ext i
  rw [mem_slot]
  exact mem_slab

/-! ## What the landings hand over -/

abbrev PC (F : FTy → Type) : Type := (cc0_scratch0 : Ref sig .tc).ty.Contents (Elt F)
abbrev RC (F : FTy → Type) : Type := (cc0_scratch1 : Ref sig .tc).ty.Contents (Elt F)

/-- The device whose rows end in slot `s` of device `t`. -/
def frm (t : Dev nD) (s : Fin 8) : Dev nD := ⟨(t.val + 8 - s.val) % 8, Nat.mod_lt _ (by decide)⟩

theorem frm_succ (c : Dev nD) (k : Fin 7) : frm (rot c k) k.succ = c := by revert c k; decide
theorem frm_zero (c : Dev nD) : frm c 0 = c := by revert c; decide

/-- The place in a partial product of row `i 1`, column `i 2` of device `t`'s share. -/
def own (t : Dev nD) (i : S8x64x512.Idx) : S512x512.Idx :=
  ValueIdx.ix2 (⟨64 * t.val + (i 1).val, by have h : (i 1).val < 64 := (i 1).isLt; have := t.isLt; show _ < 512; change t.val < 8 at this; omega⟩ : Fin 512) (⟨(i 2).val, (i 2).isLt⟩ : Fin 512)

/-- Device `t`'s receive buffer at the end: slot `s` holds the rows of `frm t s` for `t`. -/
def recvd (P : Dev nD → PC F) (t : Dev nD) : RC F := fun i => P (frm t ⟨(i 0).val, (i 0).isLt⟩) (own t i)

theorem idx3_eq (i : S8x64x512.Idx) (a : Fin 8) (b : Fin 64) (d : Fin 512) (h0 : (i 0).val = a.val) (h1 : (i 1).val = b.val) (h2 : (i 2).val = d.val) :
    ValueIdx.ix3 a b d = i := by
  funext x
  match x with
  | ⟨0, _⟩ => exact Fin.ext h0.symm
  | ⟨1, _⟩ => exact Fin.ext h1.symm
  | ⟨2, _⟩ => exact Fin.ext h2.symm

theorem dst_emb (k : Fin 7) (r : Fin 64) (q : Fin 512) :
    (dstM k).view.emb (ValueIdx.ix2 r q) = (ValueIdx.ix3 k.succ r q : S8x64x512.Idx) := by
  show (Rect.unit (s := S8x64x512) ![k.val + 1, 0, 0] S1x64x512.size (off_slot k)).emb (Shape.reshapeEquiv _ (ValueIdx.ix2 r q)) = _
  rw [ValueIdx.reshapeEquiv_ix2_1ab]
  funext x
  match x with
  | ⟨0, _⟩ => apply Fin.ext; show (k.val + 1) + 1 * 0 = k.val + 1; omega
  | ⟨1, _⟩ => apply Fin.ext; show 0 + 1 * r.val = r.val; omega
  | ⟨2, _⟩ => apply Fin.ext; show 0 + 1 * q.val = q.val; omega

theorem src_emb (c : Dev nD) (k : Fin 7) (r : Fin 64) (q : Fin 512) :
    (srcM c k).view.emb (ValueIdx.ix2 r q) = own (rot c k) (ValueIdx.ix3 k.succ r q) := by
  show (Rect.unit (s := S512x512) (k0_off2 c (BitVec.ofNat 32 (1 + k.val))) S64x512.size (k0_off2_inb c k)).emb (ValueIdx.ix2 r q) = _
  have h := off2_val c k
  funext x
  match x with
  | ⟨0, _⟩ =>
    apply Fin.ext; show k0_off2 c (BitVec.ofNat 32 (1 + k.val)) 0 + 1 * r.val = 64 * (rot c k).val + r.val
    rw [h]; show 64 * (rot c k).val + 1 * r.val = _; omega
  | ⟨1, _⟩ =>
    apply Fin.ext; show k0_off2 c (BitVec.ofNat 32 (1 + k.val)) 1 + 1 * q.val = q.val
    rw [h]; show 0 + 1 * q.val = _; omega

/-- Transfer `k` of device `c` writes its rows for `rot c k` into slot `k + 1`. -/
theorem landed (P : Dev nD → PC F) (c : Dev nD) (k : Fin 7) (fd : RC F) :
    ∀ i ∈ slot k.succ, (dstM k).view.write (Elt F) fd ((srcM c k).view.read (Elt F) (P c)) Finset.univ i = recvd P (rot c k) i := by
  intro i hi
  have h0 : (i 0).val = k.succ.val := mem_slot.mp hi
  have e : i = (dstM k).view.emb (ValueIdx.ix2 (⟨(i 1).val, (i 1).isLt⟩ : Fin 64) (⟨(i 2).val, (i 2).isLt⟩ : Fin 512)) := by
    rw [dst_emb]; exact (idx3_eq i _ _ _ h0 rfl rfl).symm
  generalize (⟨(i 1).val, (i 1).isLt⟩ : Fin 64) = r at e
  generalize (⟨(i 2).val, (i 2).isLt⟩ : Fin 512) = q at e
  subst e
  rw [View.write_emb_of_mem (h := Finset.mem_univ _)]
  rw [View.read_apply, src_emb, dst_emb]
  exact congrArg (fun d => P d (own (rot c k) (ValueIdx.ix3 k.succ r q))) (frm_succ c k).symm

/-! ## The schedule -/

def partPts (c : Dev nD) (I : Finset S512x512.Idx) (f : PC F) : sProp (𝕄 F) := ((c : Thread nD τ).loc cc0_scratch0) ↦[I]{fullShare} f
def recvPts (c : Dev nD) (I : Finset S8x64x512.Idx) (f : RC F) : sProp (𝕄 F) := ((c : Thread nD τ).loc cc0_scratch1) ↦[I]{fullShare} f

instance partPts_storable (c : Dev nD) (I f) : BI.Storable (upEmb : UEmb _ (𝕄 F)) (partPts (F := F) c I f) := by unfold partPts; infer_instance
instance recvPts_storable (c : Dev nD) (I f) : BI.Storable (upEmb : UEmb _ (𝕄 F)) (recvPts (F := F) c I f) := by unfold recvPts; infer_instance

/-- What the semaphores are to the protocol. -/
inductive Role where
  | bar
  | send (k : Fin 7)
  | recv (k : Fin 7)
  | other
deriving DecidableEq

def role : SemLoc sig → Role
  | .reg s => if s.val = 0 then .bar else .other
  | .dma s =>
    if h : 5 ≤ s.val ∧ s.val < 12 then .send ⟨s.val - 5, by omega⟩
    else if h : 13 ≤ s.val ∧ s.val < 20 then .recv ⟨s.val - 13, by omega⟩ else .other

theorem role_bar : role (.reg barS) = .bar := by decide
theorem role_send (k : Fin 7) : role (.dma (sendS k)) = .send k := by revert k; decide
theorem role_recv (k : Fin 7) : role (.dma (recvS k)) = .recv k := by revert k; decide

/-- Duty `j` of `d`'s barrier cell, paid by `rot d j`: its slot `j + 1`, and that its receive cell for transfer `j` is open. -/
def barPay (d : Dev nD) (j : Fin 7) : sProp (𝕄 F) :=
  iprop((∃ f, recvPts (rot d j) (slot j.succ) f) ∗ reached ER (recvCell (rot d j) j) 0)
def sendPay (P : Dev nD → PC F) (c : Dev nD) (k : Fin 7) : sProp (𝕄 F) := partPts c (rows (rot c k)) (P c)
def recvPay (P : Dev nD → PC F) (t : Dev nD) (k : Fin 7) : sProp (𝕄 F) := recvPts t (slot k.succ) (recvd P t)

/-- A barrier signal is one unit; a transfer's credit counts the block. -/
def amt (s : SemLoc sig) : ℕ := match role s with | .bar => 1 | _ => N

theorem amt_pos (s : SemLoc sig) : 0 < amt s := by
  unfold amt
  split
  · exact Nat.one_pos
  · exact N_pos

variable (P : Dev nD → PC F)

/-- One round. -/
def Rd : Rounds.Schedule (GSem nD τ sig) (Fin 7) (𝕄 F) where
  duties g r := if r = 0 ∧ g.1.2 = .tc then (match role g.2 with | .bar => Finset.univ | .send _ => {0} | .recv _ => {0} | .other => ∅) else ∅
  unitless _ := False
  amount g _ _ := amt g.2
  payload g _ j := match role g.2 with | .bar => barPay g.1.1 j | .send k => sendPay P g.1.1 k | .recv k => recvPay P g.1.1 k | .other => iprop(emp)
  amount_pos g _ _ _ := amt_pos g.2

instance Rd_payload_storable (g : GSem nD τ sig) (r : ℕ) (j : Fin 7) : BI.Storable (upEmb : UEmb _ (𝕄 F)) ((Rd P).payload g r j) := by
  show BI.Storable upEmb (match role g.2 with | .bar => barPay g.1.1 j | .send k => sendPay P g.1.1 k | .recv k => recvPay P g.1.1 k | .other => iprop(emp))
  unfold barPay recvPay sendPay
  split <;> infer_instance

section Sched
variable (c : Dev nD) (k j : Fin 7)

theorem duties_bar : (Rd P).duties (barCell c) 0 = Finset.univ := by
  dsimp only [Rd]; rw [if_pos ⟨rfl, rfl⟩, role_bar]
theorem duties_send : (Rd P).duties (sendCell c k) 0 = {0} := by
  dsimp only [Rd]; rw [if_pos ⟨rfl, rfl⟩, role_send]
theorem duties_recv : (Rd P).duties (recvCell c k) 0 = {0} := by
  dsimp only [Rd]; rw [if_pos ⟨rfl, rfl⟩, role_recv]
theorem duties_later (g : GSem nD τ sig) : ∀ r, 1 ≤ r → (Rd P).duties g r = ∅ :=
  fun r hr => by dsimp only [Rd]; rw [if_neg fun h => by omega]
theorem amount_bar : (Rd P).amount (barCell c) 0 j = 1 := by dsimp only [Rd, amt]; rw [role_bar]
theorem amount_send : (Rd P).amount (sendCell c k) 0 j = N := by dsimp only [Rd, amt]; rw [role_send]
theorem amount_recv : (Rd P).amount (recvCell c k) 0 j = N := by dsimp only [Rd, amt]; rw [role_recv]
theorem expect_bar : (Rd P).expect (barCell c) 0 = 7 := by
  unfold Schedule.expect Schedule.amountOf
  rw [duties_bar, Finset.sum_congr rfl fun d _ => amount_bar P c d, Finset.sum_const, Finset.card_univ, Fintype.card_fin, smul_eq_mul]
theorem expect_send : (Rd P).expect (sendCell c k) 0 = N := by
  unfold Schedule.expect Schedule.amountOf; rw [duties_send, Finset.sum_singleton, amount_send]
theorem expect_recv : (Rd P).expect (recvCell c k) 0 = N := by
  unfold Schedule.expect Schedule.amountOf; rw [duties_recv, Finset.sum_singleton, amount_recv]
theorem payload_bar : (Rd P).payload (barCell c) 0 j = barPay c j := by dsimp only [Rd]; rw [role_bar]
theorem payload_send : (Rd P).payload (sendCell c k) 0 j = sendPay P c k := by dsimp only [Rd]; rw [role_send]
theorem payload_recv : (Rd P).payload (recvCell c k) 0 j = recvPay P c k := by dsimp only [Rd]; rw [role_recv]
theorem rest_bar : bigSep ((Rd P).duties (barCell c) 0 \ ∅) (fun d => (Rd P).payload (barCell c) 0 d) = bigSep Finset.univ fun j => barPay (F := F) c j := by
  rw [Finset.sdiff_empty, duties_bar]; exact congrArg _ (funext fun j => payload_bar P c j)
theorem rest_send : bigSep ((Rd P).duties (sendCell c k) 0 \ ∅) (fun d => (Rd P).payload (sendCell c k) 0 d) = sendPay P c k := by
  rw [Finset.sdiff_empty, duties_send, bigSep_singleton, payload_send]
theorem rest_recv : bigSep ((Rd P).duties (recvCell c k) 0 \ ∅) (fun d => (Rd P).payload (recvCell c k) 0 d) = recvPay P c k := by
  rw [Finset.sdiff_empty, duties_recv, bigSep_singleton, payload_recv]

end Sched

/-! ## What a device owes at launch; the levels -/

/-- What is owed when the last `n` transfers are still to be issued, and when the last `n` signals are still to be sent. -/
def sOwe (c : Dev nD) : ℕ → CellTallies nD τ sig Unit
  | 0 => 0
  | n + 1 => sOwe c n + tallyAt (recvCell (rot c (Fin.ofNat 7 (6 - n))) (Fin.ofNat 7 (6 - n))) () N
def bOwe (c : Dev nD) : ℕ → CellTallies nD τ sig Unit
  | 0 => sOwe c 7
  | n + 1 => bOwe c n + tallyAt (barCell (rot c (Fin.ofNat 7 (6 - n)))) () 1
abbrev O₀ (c : Dev nD) : CellTallies nD τ sig Unit := bOwe c 7

def L (g : GSem nD τ sig) : Finset Unit := if g.1.2 = .tc then {()} else ∅
/-- Barrier cells at 1, receive cells at 2, everything else (staging, send) at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem sOwe_pos {c : Dev nD} {g : GSem nD τ sig} {u : Unit} : ∀ n, 0 < sOwe c n g u → ∃ k, g = recvCell (rot c k) k
  | 0, h => absurd h (Nat.lt_irrefl 0)
  | n + 1, h => by
    unfold sOwe at h
    rw [Pi.add_apply, Finsupp.add_apply] at h
    rcases Nat.eq_zero_or_pos (sOwe c n g u) with h0 | h0
    · rw [h0, Nat.zero_add] at h; exact ⟨_, tally_pos h⟩
    · exact sOwe_pos n h0
theorem bOwe_pos {c : Dev nD} {g : GSem nD τ sig} {u : Unit} : ∀ n, 0 < bOwe c n g u → (∃ k, g = barCell (rot c k)) ∨ ∃ k, g = recvCell (rot c k) k
  | 0, h => .inr (sOwe_pos 7 h)
  | n + 1, h => by
    unfold bOwe at h
    rw [Pi.add_apply, Finsupp.add_apply] at h
    rcases Nat.eq_zero_or_pos (bOwe c n g u) with h0 | h0
    · rw [h0, Nat.zero_add] at h; exact .inl ⟨_, tally_pos h⟩
    · exact bOwe_pos n h0

theorem lv_bar (c : Dev nD) : lv (barCell c) () = 1 := by dsimp only [lv]; rw [role_bar]
theorem lv_recv (c : Dev nD) (k : Fin 7) : lv (recvCell c k) () = 2 := by dsimp only [lv]; rw [role_recv]

/-- A wait on a cell at level 0, whatever of the launch debt is still owed. -/
theorem mayWait_low (c : Dev nD) (q : DmaSem sig) (hq : lv ((c : Thread nD τ), .dma q) () = 0) (n : ℕ) :
    (levAts L lv : sProp (𝕄 F)) ⊢ MayWait (c : Thread nD τ) (.dma q) () (bOwe c n) :=
  MayOwe.of_cut (L := L) (lev := lv) 0 (fun p hp => by rw [Finset.mem_singleton.mp hp, L_tc]; exact Finset.mem_singleton_self _)
    (fun g u hg => by rcases bOwe_pos n hg with ⟨k, rfl⟩ | ⟨k, rfl⟩ <;> exact Finset.mem_singleton_self _)
    (fun p hp => by rw [Finset.mem_singleton.mp hp]; exact hq.le)
    (fun g u hg => by
      rcases bOwe_pos n hg with ⟨k, rfl⟩ | ⟨k, rfl⟩
      · rw [show u = () from rfl, lv_bar]; decide
      · rw [show u = () from rfl, lv_recv]; decide)

/-- At its barrier wait a device owes receive credits only. -/
theorem mayWait_bar (c : Dev nD) : (levAts L lv : sProp (𝕄 F)) ⊢ MayWait (c : Thread nD τ) (.reg barS) () (sOwe c 7) :=
  MayOwe.of_cut (L := L) (lev := lv) 1 (fun p hp => by rw [Finset.mem_singleton.mp hp, L_tc]; exact Finset.mem_singleton_self _)
    (fun g u hg => by obtain ⟨k, rfl⟩ := sOwe_pos 7 hg; exact Finset.mem_singleton_self _)
    (fun p hp => by rw [Finset.mem_singleton.mp hp]; exact (lv_bar c).le)
    (fun g u hg => by obtain ⟨k, rfl⟩ := sOwe_pos 7 hg; rw [show u = () from rfl, lv_recv]; decide)

/-! ## Cutting and joining the two scratch buffers -/

theorem rot_ne (c : Dev nD) (k : Fin 7) : rot c k ≠ c := by revert c k; decide
theorem rot_inj_right (c : Dev nD) : ∀ k k' : Fin 7, rot c k = rot c k' → k = k' := by revert c; decide
theorem rot_cover (c d : Dev nD) : d = c ∨ ∃ k, d = rot c k := by revert c d; decide

theorem rows_disjoint {d d' : Dev nD} (h : d ≠ d') : Disjoint (rows d) (rows d') :=
  Finset.disjoint_left.mpr fun i hi hi' => h (Fin.ext ((mem_rows.mp hi).symm.trans (mem_rows.mp hi')))
theorem slot_disjoint {s s' : Fin 8} (h : s ≠ s') : Disjoint (slot s) (slot s') :=
  Finset.disjoint_left.mpr fun i hi hi' => h (Fin.ext ((mem_slot.mp hi).symm.trans (mem_slot.mp hi')))

theorem part_cover (c : Dev nD) : (Finset.univ : Finset S512x512.Idx) = rows c ∪ Finset.univ.biUnion fun k : Fin 7 => rows (rot c k) := by
  ext i
  have h0 : (i 0).val < 512 := (i 0).isLt
  refine ⟨fun _ => ?_, fun _ => Finset.mem_univ _⟩
  rw [Finset.mem_union, Finset.mem_biUnion]
  rcases rot_cover c ⟨(i 0).val / 64, by show _ < 8; omega⟩ with h | ⟨k, h⟩
  · exact .inl (mem_rows.mpr (congrArg Fin.val h))
  · exact .inr ⟨k, Finset.mem_univ _, mem_rows.mpr (congrArg Fin.val h)⟩
theorem slot_cover : (Finset.univ : Finset S8x64x512.Idx) = slot 0 ∪ Finset.univ.biUnion fun k : Fin 7 => slot k.succ := by
  ext i
  refine ⟨fun _ => ?_, fun _ => Finset.mem_univ _⟩
  rw [Finset.mem_union, Finset.mem_biUnion]
  rcases Fin.eq_zero_or_eq_succ (⟨(i 0).val, (i 0).isLt⟩ : Fin 8) with h | ⟨k, h⟩
  · exact .inl (mem_slot.mpr (congrArg Fin.val h))
  · exact .inr ⟨k, Finset.mem_univ _, mem_slot.mpr (congrArg Fin.val h)⟩

/-- A partial product held whole is held share by share; -/
theorem part_split (c : Dev nD) (f : PC F) :
    (((c : Thread nD τ).loc cc0_scratch0) ↦{fullShare} f : sProp (𝕄 F)) = iprop(partPts c (rows c) f ∗ bigSep Finset.univ fun k : Fin 7 => partPts c (rows (rot c k)) f) := by
  unfold partPts
  have hd : Disjoint (rows c) (Finset.univ.biUnion fun k : Fin 7 => rows (rot c k)) :=
    (Finset.disjoint_biUnion_right _ _ _).mpr fun k _ => rows_disjoint (rot_ne c k).symm
  have hu : (((c : Thread nD τ).loc cc0_scratch0) ↦[rows c ∪ Finset.univ.biUnion fun k : Fin 7 => rows (rot c k)]{fullShare} f : sProp (𝕄 F)) ⊣⊢ _ := pointsTo_union hd
  have hb := pointsTo_biUnion (Ix := Unit) (Name := ℕ) (U := UU) (Lvl := ℕ) (ℓ := (c : Thread nD τ).loc cc0_scratch0) (q := fullShare) (f := f) Finset.univ (fun k : Fin 7 => rows (rot c k))
    (fun k _ k' _ h => rows_disjoint fun e => h (rot_inj_right c k k' e))
  rw [← hb]
  rw [← BI.equiv_iff.mp ⟨hu.1, hu.2⟩]
  exact congrArg (fun I => (((c : Thread nD τ).loc cc0_scratch0) ↦[I]{fullShare} f : sProp (𝕄 F))) (part_cover c)
/-- the receive buffer slot by slot. -/
theorem recv_split (c : Dev nD) (f : RC F) :
    (((c : Thread nD τ).loc cc0_scratch1) ↦{fullShare} f : sProp (𝕄 F)) = iprop(recvPts c (slot 0) f ∗ bigSep Finset.univ fun k : Fin 7 => recvPts c (slot k.succ) f) := by
  unfold recvPts
  have hd : Disjoint (slot 0) (Finset.univ.biUnion fun k : Fin 7 => slot k.succ) :=
    (Finset.disjoint_biUnion_right _ _ _).mpr fun k _ => slot_disjoint (Fin.succ_ne_zero k).symm
  have hu : (((c : Thread nD τ).loc cc0_scratch1) ↦[slot 0 ∪ Finset.univ.biUnion fun k : Fin 7 => slot k.succ]{fullShare} f : sProp (𝕄 F)) ⊣⊢ _ := pointsTo_union hd
  have hb := pointsTo_biUnion (Ix := Unit) (Name := ℕ) (U := UU) (Lvl := ℕ) (ℓ := (c : Thread nD τ).loc cc0_scratch1) (q := fullShare) (f := f) Finset.univ (fun k : Fin 7 => slot k.succ)
    (fun k _ k' _ h => slot_disjoint fun e => h (Fin.succ_injective _ e))
  rw [← hb]
  rw [← BI.equiv_iff.mp ⟨hu.1, hu.2⟩]
  exact congrArg (fun I => (((c : Thread nD τ).loc cc0_scratch1) ↦[I]{fullShare} f : sProp (𝕄 F))) slot_cover

/-! ## The cells and their records -/

abbrev csem (p : Fin 2 × Fin 7) : SemLoc sig := match p.1 with | 0 => .dma (sendS p.2) | 1 => .dma (recvS p.2)
theorem csem_inj : Function.Injective csem := by decide
theorem csem_ne_bar : ∀ p, csem p ≠ .reg barS := by decide

def barEmb : Dev nD ↪ GSem nD τ sig := ⟨fun c => barCell c, fun _ _ h => congrArg (fun g : GSem nD τ sig => g.1.1) h⟩
def scEmb : Dev nD × (Fin 2 × Fin 7) ↪ GSem nD τ sig :=
  ⟨fun ck => ((ck.1 : Thread nD τ), csem ck.2), fun _ _ h =>
    Prod.ext (congrArg (fun g : GSem nD τ sig => g.1.1) h) (csem_inj (congrArg Prod.snd h))⟩

/-- The barrier cells, live from launch; the send and receive cells, which are scoped and open in the kernel. -/
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact csem_ne_bar ck.2 (congrArg Prod.snd h)

theorem bar_mem (c : Dev nD) : barCell c ∈ (barCells ∪ scCells : Finset (GSem nD τ sig)) :=
  Finset.mem_union_left _ (Finset.mem_map_of_mem barEmb (Finset.mem_univ c))
theorem send_mem (c : Dev nD) (k : Fin 7) : sendCell c k ∈ (barCells ∪ scCells : Finset (GSem nD τ sig)) :=
  Finset.mem_union_right _ (Finset.mem_map_of_mem scEmb (Finset.mem_univ (c, ((0 : Fin 2), k))))
theorem recv_mem (c : Dev nD) (k : Fin 7) : recvCell c k ∈ (barCells ∪ scCells : Finset (GSem nD τ sig)) :=
  Finset.mem_union_right _ (Finset.mem_map_of_mem scEmb (Finset.mem_univ (c, ((1 : Fin 2), k))))

/-- What every device may consult: all the invariants under one map of names; that every barrier cell is at round 0. -/
def records (κ : GSem nD τ sig → ℕ) : sProp (𝕄 F) :=
  iprop((bigSep (barCells ∪ scCells) fun g => cellInv ER (Rd P) (κ g) g) ∗ bigSep barCells fun g => reached ER g 0)

instance records_persistent (κ : GSem nD τ sig → ℕ) : BI.Persistent (records P κ) := by unfold records; infer_instance

theorem inv_at (κ : GSem nD τ sig → ℕ) {g : GSem nD τ sig} (hg : g ∈ (barCells ∪ scCells : Finset (GSem nD τ sig))) :
    records P κ ⊢ cellInv ER (Rd P) (κ g) g := by
  unfold records; iintro ⟨H, -⟩; iapply (show (bigSep (barCells ∪ scCells) fun g => (cellInv ER (Rd P) (κ g) g : sProp (𝕄 F))) ⊢ cellInv ER (Rd P) (κ g) g from bigSep_elim hg); iexact H

theorem reached_at (κ : GSem nD τ sig → ℕ) (c : Dev nD) : records P κ ⊢ reached ER (barCell c) 0 := by
  unfold records; iintro ⟨-, H⟩; iapply (show (bigSep barCells fun g => (reached ER g 0 : sProp (𝕄 F))) ⊢ reached ER (barCell c) 0 from bigSep_elim (Finset.mem_map_of_mem barEmb (Finset.mem_univ c))); iexact H

end Cert.MoeProof

end
-- ==== Proof.Steps.lean ====
/-
  One lemma per kind of communication step of the kernel, at a symbolic device and a symbolic transfer: the barrier signal, the
  barrier wait, the remote copy, the wait for a copy sent, the wait for a copy received.
-/
module

public import proofs.«01_k».proof.Proof.Proto

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev 𝒱₀ : Variants := Variants.none

variable (P : Dev nD → PC F) (K : GSem nD τ sig → ℕ) (c : Dev nD)

/-- What a device may consult during its body: the invariants, that its own send and receive cells are open, the levels. -/
def Ctx : sProp (𝕄 F) :=
  iprop(records P K ∗ (bigSep Finset.univ fun k : Fin 7 => reached ER (sendCell c k) 0) ∗ (bigSep Finset.univ fun k : Fin 7 => reached ER (recvCell c k) 0) ∗ levAts L lv)

instance Ctx_persistent : BI.Persistent (Ctx P K c) := by unfold Ctx; infer_instance

theorem ctx_records : Ctx P K c ⊢ records P K := by unfold Ctx; iintro ⟨H, -, -, -⟩; iexact H
theorem ctx_inv {g : GSem nD τ sig} (hg : g ∈ (barCells ∪ scCells : Finset (GSem nD τ sig))) : Ctx P K c ⊢ cellInv ER (Rd P) (K g) g :=
  (ctx_records P K c).trans (inv_at P K hg)
theorem ctx_bar (d : Dev nD) : Ctx P K c ⊢ reached ER (barCell d) 0 := (ctx_records P K c).trans (reached_at P K d)
theorem ctx_send (k : Fin 7) : Ctx P K c ⊢ reached ER (sendCell c k) 0 := by
  unfold Ctx; iintro ⟨-, H, -, -⟩
  iapply (show (bigSep Finset.univ fun k : Fin 7 => (reached ER (sendCell c k) 0 : sProp (𝕄 F))) ⊢ reached ER (sendCell c k) 0 from bigSep_elim (Finset.mem_univ k)); iexact H
theorem ctx_recv (k : Fin 7) : Ctx P K c ⊢ reached ER (recvCell c k) 0 := by
  unfold Ctx; iintro ⟨-, -, H, -⟩
  iapply (show (bigSep Finset.univ fun k : Fin 7 => (reached ER (recvCell c k) 0 : sProp (𝕄 F))) ⊢ reached ER (recvCell c k) 0 from bigSep_elim (Finset.mem_univ k)); iexact H
theorem ctx_lev : Ctx P K c ⊢ levAts L lv := by unfold Ctx; iintro ⟨-, -, -, H⟩; iexact H

/-- What is owed, whatever has been waited on. -/
def owesAny (O : CellTallies nD τ sig Unit) : sProp (𝕄 F) := iprop(∃ W, owes (c : Thread nD τ) O W)

variable {α : Type} {Q : α → sProp (𝕄 F)} {κ : PUnit → Prog (TpuEff nD τ sig (Elt F) Λ₀ .tc) α}

/-- Signal `k`, to `rot c k`: hands over the own slot that `rot c k` will write. -/
theorem step_signal (k : Fin 7) (n : Dev nD) (hn : n = rot c k) (a : ℕ) (ha : a = 1) (O₁ O : CellTallies nD τ sig Unit)
    (hO : O₁ = O + tallyAt (barCell (rot c k)) () 1) :
    iprop(Ctx P K c ∗ dutyTok ER (barCell (rot c k)) 0 k.rev ∗ (∃ f, recvPts c (slot k.rev.succ) f) ∗ owesAny c O₁)
      ⊢ iprop((owesAny c O -∗ wp frame (wpE (defs₀ (F := F)) 𝒱₀ (c : Thread nD τ) none) Set.univ (κ ⟨⟩) Q)
          -∗ wp frame (wpE (defs₀ (F := F)) 𝒱₀ (c : Thread nD τ) none) Set.univ (.op (.semSignal (Dev.tc n : Thread nD τ) barS a) κ) Q) := by
  subst hn ha
  unfold owesAny
  iintro ⟨#HC, Htok, Hs, ⟨%W, HO⟩⟩ Hk
  iapply (Rounds.wp_signal 𝒱₀ ER (Rd P) (c : Thread nD τ) none (dst := (rot c k : Thread nD τ)) (sem := barS) (r := 0) (d := k.rev) (κ := K (barCell (rot c k)))
      (by rw [duties_bar]; exact Finset.mem_univ _) (amount_bar P (rot c k) k.rev) () O hO) $$ [HO Htok Hs]
  · isplitr; · iapply (ctx_inv P K c (bar_mem (rot c k))); iexact HC
    isplitl [HO]; · iexact HO
    isplitl [Htok]; · iexact Htok
    isplitl [Hs]
    · rw [payload_bar]; unfold barPay; rw [rot_rev]
      isplitl [Hs]; · iexact Hs
      iapply (ctx_recv P K c k.rev); iexact HC
    · iapply (ctx_bar P K c (rot c k)); iexact HC
  iintro HO
  iapply Hk
  iexists W; iexact HO

/-- The wait for the seven signals: every destination slot arrives. -/
theorem step_wait_bar (a : ℕ) (ha : a = 7) :
    iprop(Ctx P K c ∗ cred (tallyAt (barCell c) () 7) ∗ atPos ER (barCell c) 0 ∅ 0 ∗ owesAny c (sOwe c 7))
      ⊢ iprop(((owesAny c (sOwe c 7) ∗ semVal (barCell c) 0 ∗ bigSep Finset.univ fun j => barPay c j)
            -∗ wp frame (wpE (defs₀ (F := F)) 𝒱₀ (c : Thread nD τ) none) Set.univ (κ ⟨⟩) Q)
          -∗ wp frame (wpE (defs₀ (F := F)) 𝒱₀ (c : Thread nD τ) none) Set.univ (.op (.semWait barS a) κ) Q) := by
  subst ha
  unfold owesAny
  iintro ⟨#HC, Hc, Hat, ⟨%W, HO⟩⟩ Hk
  iapply (Rounds.wp_wait_rest_token 𝒱₀ ER (Rd P) (c : Thread nD τ) none (κ := K (barCell c))
      (wpE_semWait_eq 𝒱₀ (c : Thread nD τ) none Set.univ) (Set.mem_univ _) () (O := sOwe c 7) (W := W) (R := 0) (m := 0) (T := ∅)
      ((Nat.zero_add 7).trans (expect_bar P c).symm)) $$ [Hc HO Hat]
  · isplitr; · iapply (ctx_inv P K c (bar_mem c)); iexact HC
    isplitl [Hc]; · iexact Hc
    isplitl [HO]; · iexact HO
    isplitr; · iapply (mayWait_bar c); iapply (ctx_lev P K c); iexact HC
    iexact Hat
  iintro ⟨HO, Hat, -, Hpay⟩
  imod (Rounds.cell_close ER (Rd P) (Set.mem_univ (K (barCell c))) (fun h => h) (R := 0 + 1) (duties_later P (barCell c))) $$ [Hat] with Hz
  · isplitr; · iapply (ctx_inv P K c (bar_mem c)); iexact HC
    iexact Hat
  iapply Hk
  isplitl [HO]; · iexists _; iexact HO
  isplitl [Hz]; · iexact Hz
  iapply (Entails.of_eq (rest_bar P c)); iexact Hpay

/-- Transfer `k`. -/
theorem step_send (k : Fin 7) (n : Dev nD) (hn : n = rot c k) (O₁ O : CellTallies nD τ sig Unit)
    (hO : O₁ = O + tallyAt (recvCell (rot c k) k) () N)
    {hsc : (dstM k : Memref sig (Dev.tc n : Thread nD τ).2.kind .vmem S64x512 .f32).view.ref.isScScratch = false}
    {hsrc : (srcM c k).view.WordExact} {hdst : (dstM k).view.WordExact}
    {hsem : DmaTarget.Typed .vmem (.dma (recvS k)) (.remote (Dev.tc n : Thread nD τ) (dstM k) (.dma (sendS k)) hsc)} :
    iprop(Ctx P K c ∗ (dutyTok ER (sendCell c k) 0 0 ∗ dutyTok ER (recvCell (rot c k) k) 0 0) ∗ partPts c (rows (rot c k)) (P c) ∗ barPay c k ∗ owesAny c O₁)
      ⊢ iprop(((cred (tallyAt (sendCell c k) () N) ∗ owesAny c O) -∗ wp frame (wpE (defs₀ (F := F)) 𝒱₀ (c : Thread nD τ) none) Set.univ (κ ⟨⟩) Q)
          -∗ wp frame (wpE (defs₀ (F := F)) 𝒱₀ (c : Thread nD τ) none) Set.univ
              (.op (.enqueueDma (srcM c k) (.remote (Dev.tc n : Thread nD τ) (dstM k) (.dma (sendS k)) hsc) (.dma (recvS k)) hsrc hdst hsem) κ) Q) := by
  subst hn
  unfold owesAny barPay
  iintro ⟨#HC, ⟨HtS, HtR⟩, Hp, ⟨⟨%fd, Hs⟩, #HrR⟩, ⟨%W, HO⟩⟩ Hk
  iapply (Rounds.wp_send_pointsTo 𝒱₀ ER (Rd P) (c : Thread nD τ) none (c' := (rot c k : Thread nD τ)) (src := srcM c k) (dst := dstM k)
      (sS := .dma (sendS k)) (sem := .dma (recvS k)) (q := fullShare) (fs := P c) (κ₁ := K (sendCell c k)) (κ₂ := K (recvCell (rot c k) k))
      (r₁ := 0) (r₂ := 0) (d₁ := 0) (d₂ := 0) (fd := fd)
      (by rw [duties_send]; exact Finset.mem_singleton_self _) (by rw [duties_recv]; exact Finset.mem_singleton_self _)
      () () N rfl (amount_send P c k 0) (amount_recv P (rot c k) k 0) O hO (W := W)
      (by rw [payload_send]; unfold sendPay partPts; rw [src_set])
      (by rw [payload_recv]; unfold recvPay recvPts; rw [dst_set]; exact Entails.of_eq (pointsTo_congr (landed P c k fd)))) $$ [Hp Hs HO HtS HtR]
  · isplitr; · iapply (ctx_inv P K c (send_mem c k)); iexact HC
    isplitr; · iapply (ctx_inv P K c (recv_mem (rot c k) k)); iexact HC
    isplitl [Hp]; · rw [src_set]; unfold partPts; iexact Hp
    isplitl [Hs]; · rw [dst_set]; unfold recvPts; iexact Hs
    isplitl [HO]; · iexact HO
    isplitl [HtS]; · iexact HtS
    isplitr; · iapply (ctx_send P K c k); iexact HC
    isplitl [HtR]; · iexact HtR
    iexact HrR
  iintro ⟨Hcr, HO⟩
  iapply Hk
  isplitl [Hcr]; · iexact Hcr
  iexists W; iexact HO

theorem credit_src (c : Dev nD) (k : Fin 7) : (srcM c k).view.dmaCredit = N := rfl
theorem credit_dst (k : Fin 7) : (dstM k).view.dmaCredit = N := rfl

/-- The wait for transfer `k` to have been sent: the source rows come back, the send cell closes. -/
theorem step_wait_send (k : Fin 7) {h₁ : (dstM k).view.WordExact} {h₂ : (srcM c k).view.WordExact} :
    iprop(Ctx P K c ∗ cred (tallyAt (sendCell c k) () N) ∗ atPos ER (sendCell c k) 0 ∅ 0 ∗ owesAny c 0)
      ⊢ iprop(((owesAny c 0 ∗ semVal (sendCell c k) 0 ∗ partPts c (rows (rot c k)) (P c))
            -∗ wp frame (wpE (defs₀ (F := F)) 𝒱₀ (c : Thread nD τ) none) Set.univ (κ ⟨⟩) Q)
          -∗ wp frame (wpE (defs₀ (F := F)) 𝒱₀ (c : Thread nD τ) none) Set.univ (.op (.waitDma2 (sendS k) (dstM k) (srcM c k) h₁ h₂) κ) Q) := by
  unfold owesAny
  iintro ⟨#HC, Hc, Hat, ⟨%W, HO⟩⟩ Hk
  iapply (Rounds.wp_wait_rest_token 𝒱₀ ER (Rd P) (c : Thread nD τ) none (κ := K (sendCell c k))
      (wpE_waitDma2_eq 𝒱₀ (c : Thread nD τ) none Set.univ) (Set.mem_univ _) () (O := 0) (W := W) (R := 0) (m := 0) (T := ∅)
      ((Nat.zero_add _).trans ((credit_src c k).trans (expect_send P c k).symm))) $$ [Hc HO Hat]
  · isplitr; · iapply (ctx_inv P K c (send_mem c k)); iexact HC
    isplitl [Hc]; · rw [credit_src]; iexact Hc
    isplitl [HO]; · iexact HO
    isplitr; · rw [MayWait_zero]; iempintro
    iexact Hat
  iintro ⟨HO, Hat, -, Hpay⟩
  imod (Rounds.cell_close ER (Rd P) (Set.mem_univ (K (sendCell c k))) (fun h => h) (R := 0 + 1) (duties_later P (sendCell c k))) $$ [Hat] with Hz
  · isplitr; · iapply (ctx_inv P K c (send_mem c k)); iexact HC
    iexact Hat
  iapply Hk
  isplitl [HO]; · iexists _; iexact HO
  isplitl [Hz]; · iexact Hz
  iapply (show _ ⊢ partPts c (rows (rot c k)) (P c) from Entails.of_eq (rest_send P c k)); iexact Hpay

/-- The wait for transfer `k` of the device on the other side: slot `k + 1` arrives, the receive cell closes. -/
theorem step_wait_recv (k : Fin 7) {h₁ : (srcM c k).view.WordExact} {h₂ : (dstM k).view.WordExact} :
    iprop(Ctx P K c ∗ cred (tallyAt (recvCell c k) () N) ∗ atPos ER (recvCell c k) 0 ∅ 0 ∗ owesAny c 0)
      ⊢ iprop(((owesAny c 0 ∗ semVal (recvCell c k) 0 ∗ recvPts c (slot k.succ) (recvd P c))
            -∗ wp frame (wpE (defs₀ (F := F)) 𝒱₀ (c : Thread nD τ) none) Set.univ (κ ⟨⟩) Q)
          -∗ wp frame (wpE (defs₀ (F := F)) 𝒱₀ (c : Thread nD τ) none) Set.univ (.op (.waitDma2 (recvS k) (srcM c k) (dstM k) h₁ h₂) κ) Q) := by
  unfold owesAny
  iintro ⟨#HC, Hc, Hat, ⟨%W, HO⟩⟩ Hk
  iapply (Rounds.wp_wait_rest_token 𝒱₀ ER (Rd P) (c : Thread nD τ) none (κ := K (recvCell c k))
      (wpE_waitDma2_eq 𝒱₀ (c : Thread nD τ) none Set.univ) (Set.mem_univ _) () (O := 0) (W := W) (R := 0) (m := 0) (T := ∅)
      ((Nat.zero_add _).trans ((credit_dst k).trans (expect_recv P c k).symm))) $$ [Hc HO Hat]
  · isplitr; · iapply (ctx_inv P K c (recv_mem c k)); iexact HC
    isplitl [Hc]; · rw [credit_dst]; iexact Hc
    isplitl [HO]; · iexact HO
    isplitr; · rw [MayWait_zero]; iempintro
    iexact Hat
  iintro ⟨HO, Hat, -, Hpay⟩
  imod (Rounds.cell_close ER (Rd P) (Set.mem_univ (K (recvCell c k))) (fun h => h) (R := 0 + 1) (duties_later P (recvCell c k))) $$ [Hat] with Hz
  · isplitr; · iapply (ctx_inv P K c (recv_mem c k)); iexact HC
    iexact Hat
  iapply Hk
  isplitl [HO]; · iexists _; iexact HO
  isplitl [Hz]; · iexact Hz
  iapply (show _ ⊢ recvPts c (slot k.succ) (recvd P c) from Entails.of_eq (rest_recv P c k)); iexact Hpay

end Cert.MoeProof

end
-- ==== Proof.Body.lean ====
/-
  The kernel's body, run once at a symbolic device: part by part, each part a theorem from what it holds to what it leaves.
-/
module

public import proofs.«01_k».proof.Proof.Steps

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option maxHeartbeats 2000000

variable {F : FTy → Type} [FloatOps F]

/-! ## The contents -/

abbrev XC (F : FTy → Type) : Type := (cc0_stg0_0 : Ref sig .tc).ty.Contents (Elt F)
abbrev KC (F : FTy → Type) : Type := (cc0_stg1_0 : Ref sig .tc).ty.Contents (Elt F)
abbrev WC (F : FTy → Type) : Type := (cc0_stg2_0 : Ref sig .tc).ty.Contents (Elt F)
abbrev OC (F : FTy → Type) : Type := (cc0_stg3_0 : Ref sig .tc).ty.Contents (Elt F)

abbrev rx : Rect S512x256 := Rect.unit (s := S512x256) ![0, 0] S512x256.size inb_S512x256_S512x256_0_0
abbrev rk0 : Rect S512x4 := Rect.unit (s := S512x4) ![0, 0] S512x1.size inb_S512x4_S512x1_0_0
abbrev rk1 : Rect S512x4 := Rect.unit (s := S512x4) ![0, 1] S512x1.size inb_S512x4_S512x1_0_1
abbrev rk2 : Rect S512x4 := Rect.unit (s := S512x4) ![0, 2] S512x1.size inb_S512x4_S512x1_0_2
abbrev rk3 : Rect S512x4 := Rect.unit (s := S512x4) ![0, 3] S512x1.size inb_S512x4_S512x1_0_3
abbrev rw0 : Rect S4x256x512 := Rect.unit (s := S4x256x512) ![0, 0, 0] S1x256x512.size inb_S4x256x512_S1x256x512_0_0_0
abbrev rw1 : Rect S4x256x512 := Rect.unit (s := S4x256x512) ![1, 0, 0] S1x256x512.size inb_S4x256x512_S1x256x512_1_0_0
abbrev rw2 : Rect S4x256x512 := Rect.unit (s := S4x256x512) ![2, 0, 0] S1x256x512.size inb_S4x256x512_S1x256x512_2_0_0
abbrev rw3 : Rect S4x256x512 := Rect.unit (s := S4x256x512) ![3, 0, 0] S1x256x512.size inb_S4x256x512_S1x256x512_3_0_0
abbrev rp : Rect S512x512 := Rect.unit (s := S512x512) ![0, 0] S512x512.size inb_S512x512_S512x512_0_0
abbrev ro : Rect S64x512 := Rect.unit (s := S64x512) ![0, 0] S64x512.size inb_S64x512_S64x512_0_0
abbrev rs0 : Rect S8x64x512 := Rect.unit (s := S8x64x512) ![0, 0, 0] S1x64x512.size inb_S8x64x512_S1x64x512_0_0_0
abbrev rs1 : Rect S8x64x512 := Rect.unit (s := S8x64x512) ![1, 0, 0] S1x64x512.size inb_S8x64x512_S1x64x512_1_0_0
abbrev rs2 : Rect S8x64x512 := Rect.unit (s := S8x64x512) ![2, 0, 0] S1x64x512.size inb_S8x64x512_S1x64x512_2_0_0
abbrev rs3 : Rect S8x64x512 := Rect.unit (s := S8x64x512) ![3, 0, 0] S1x64x512.size inb_S8x64x512_S1x64x512_3_0_0
abbrev rs4 : Rect S8x64x512 := Rect.unit (s := S8x64x512) ![4, 0, 0] S1x64x512.size inb_S8x64x512_S1x64x512_4_0_0
abbrev rs5 : Rect S8x64x512 := Rect.unit (s := S8x64x512) ![5, 0, 0] S1x64x512.size inb_S8x64x512_S1x64x512_5_0_0
abbrev rs6 : Rect S8x64x512 := Rect.unit (s := S8x64x512) ![6, 0, 0] S1x64x512.size inb_S8x64x512_S1x64x512_6_0_0
abbrev rs7 : Rect S8x64x512 := Rect.unit (s := S8x64x512) ![7, 0, 0] S1x64x512.size inb_S8x64x512_S1x64x512_7_0_0
abbrev rb (c : Dev nD) : Rect S512x512 := Rect.unit (s := S512x512) (k0_off1 c) S64x512.size (k0_off1_inb c)

/-- The first two experts' share, from the three inputs. -/
def halfOf (x : XC F) (k : KC F) (w : WC F) : FVec F S512x512 .f32 :=
  k0_pay3 x (kM.view.readAt (Elt F) rk0.toLoadRect k) (wM.view.readAt (Elt F) rw0.toLoadRect w) (kM.view.readAt (Elt F) rk1.toLoadRect k) (wM.view.readAt (Elt F) rw1.toLoadRect w)

/-- A device's share of every token's row, from its three inputs. -/
def partOf (x : XC F) (k : KC F) (w : WC F) : PC F :=
  k0_pay4 (k0_pay2 x) (halfOf x k w) (kM.view.readAt (Elt F) rk2.toLoadRect k) (wM.view.readAt (Elt F) rw2.toLoadRect w) (kM.view.readAt (Elt F) rk3.toLoadRect k) (wM.view.readAt (Elt F) rw3.toLoadRect w)

/-- A device's result, from its receive buffer. -/
def outOf (r : RC F) : OC F :=
  k0_pay1 (rM.view.readAt (Elt F) rs0.toLoadRect r) (rM.view.readAt (Elt F) rs1.toLoadRect r) (rM.view.readAt (Elt F) rs2.toLoadRect r) (rM.view.readAt (Elt F) rs3.toLoadRect r) (rM.view.readAt (Elt F) rs4.toLoadRect r) (rM.view.readAt (Elt F) rs5.toLoadRect r) (rM.view.readAt (Elt F) rs6.toLoadRect r) (rM.view.readAt (Elt F) rs7.toLoadRect r)

theorem hz2 : (![0, 0] : Fin 2 → Nat) = fun _ => 0 := funext fun a => by fin_cases a <;> rfl

theorem read_x (x : XC F) : xM.view.readAt (Elt F) rx.toLoadRect x = x := Memref.readAt_unit_zero (Elt F) cc0_stg0_0 hz2 _ x
theorem write_p (f : PC F) (w : PC F) : (pM.access rp).write (Elt F) f w Finset.univ = w :=
  Memref.write_access_unit_zero_univ (Elt F) cc0_scratch0 hz2 _ f w
theorem write_o (f w : OC F) : (oM.access ro).write (Elt F) f w Finset.univ = w :=
  Memref.write_access_unit_zero_univ (Elt F) cc0_stg3_0 hz2 _ f w

theorem slot0_set : (rM.access rs0).set = slot 0 := by
  show ((View.whole cc0_scratch1).slice _).set = _
  rw [View.set_slice_whole]
  ext i
  rw [mem_slot]
  exact mem_slab

/-- The own rows, written into slot 0. -/
theorem own_written (P : Dev nD → PC F) (c : Dev nD) (f : RC F) :
    ∀ i ∈ slot 0, (rM.access rs0).write (Elt F) f (k0_pay5 (pM.view.readAt (Elt F) (rb c).toLoadRect (P c))) Finset.univ i = recvd P c i := by
  intro i hi
  have h0 : (i 0).val = (0 : Fin 8).val := mem_slot.mp hi
  have e : i = (rM.access rs0).emb (ValueIdx.ix3 (0 : Fin 1) (⟨(i 1).val, (i 1).isLt⟩ : Fin 64) (⟨(i 2).val, (i 2).isLt⟩ : Fin 512)) := by
    funext a
    match a with
    | ⟨0, _⟩ => apply Fin.ext; show (i 0).val = 0 + 1 * 0; rw [h0]; rfl
    | ⟨1, _⟩ => apply Fin.ext; show (i 1).val = 0 + 1 * (i 1).val; omega
    | ⟨2, _⟩ => apply Fin.ext; show (i 2).val = 0 + 1 * (i 2).val; omega
  generalize hr : (⟨(i 1).val, (i 1).isLt⟩ : Fin 64) = r at e
  generalize hq : (⟨(i 2).val, (i 2).isLt⟩ : Fin 512) = q at e
  rw [e, View.write_emb_of_mem (h := Finset.mem_univ _), ← e]
  unfold k0_pay5
  have e2 : pM.view.emb ((rb c).toLoadRect.idx (ValueIdx.ix2 r q)) = own c i := by
    show (Rect.unit (s := S512x512) (k0_off1 c) S64x512.size (k0_off1_inb c)).emb (ValueIdx.ix2 r q) = _
    have h := k0_off1_eq c
    funext x
    match x with
    | ⟨0, _⟩ =>
      apply Fin.ext; show k0_off1 c 0 + 1 * r.val = 64 * c.val + (i 1).val
      rw [h, ← hr]; show 64 * c.val + 1 * (i 1).val = _; omega
    | ⟨1, _⟩ =>
      apply Fin.ext; show k0_off1 c 1 + 1 * q.val = (i 2).val
      rw [h, ← hq]; show 0 + 1 * (i 2).val = _; omega
  rw [show shapeCast S1x64x512 (pM.view.readAt (Elt F) (rb c).toLoadRect (P c)) shapeCasts_S64x512_S1x64x512 (ValueIdx.ix3 (0 : Fin 1) r q)
      = pM.view.readAt (Elt F) (rb c).toLoadRect (P c) (ValueIdx.ix2 r q) from ValueIdx.shapeCast_ab_1ab_apply _ _ _ _ _]
  rw [View.readAt_apply, View.read_apply]
  rw [e2]
  unfold recvd
  rw [show (⟨(i 0).val, (i 0).isLt⟩ : Fin 8) = 0 from Fin.ext h0, frm_zero]
  rfl

/-! ## The parts -/

variable (P : Dev nD → PC F) (K : GSem nD τ sig → ℕ) (c : Dev nD)

/-- Running a device's program with nothing around it. -/
abbrev runs {α : Type} (p : Prog (TpuEff nD τ sig (Elt F) Λ₀ .tc) α) (Q : α → sProp (𝕄 F)) : sProp (𝕄 F) :=
  wp frame (wpE (defs₀ (F := F)) 𝒱₀ (c : Thread nD τ) none) Set.univ p Q

abbrev sigTok (k : Fin 7) : sProp (𝕄 F) := dutyTok ER (barCell (rot c k)) 0 k.rev
abbrev ownSlot (k : Fin 7) : sProp (𝕄 F) := iprop(∃ f, recvPts c (slot k.succ) f)
abbrev sendTok (k : Fin 7) : sProp (𝕄 F) := iprop(dutyTok ER (sendCell c k) 0 0 ∗ dutyTok ER (recvCell (rot c k) k) 0 0)
abbrev srcPts (k : Fin 7) : sProp (𝕄 F) := partPts c (rows (rot c k)) (P c)
abbrev sendAt (k : Fin 7) : sProp (𝕄 F) := atPos ER (sendCell c k) 0 ∅ 0
abbrev recvAt (k : Fin 7) : sProp (𝕄 F) := atPos ER (recvCell c k) 0 ∅ 0
abbrev sendCr (k : Fin 7) : sProp (𝕄 F) := cred (tallyAt (sendCell c k) () N)
abbrev recvCr (k : Fin 7) : sProp (𝕄 F) := cred (tallyAt (recvCell c k) () N)
abbrev sendZ (k : Fin 7) : sProp (𝕄 F) := semVal (sendCell c k) 0
abbrev recvZ (k : Fin 7) : sProp (𝕄 F) := semVal (recvCell c k) 0
abbrev inSlot (k : Fin 7) : sProp (𝕄 F) := recvPts c (slot k.succ) (recvd P c)
abbrev stg0 (x : XC F) : sProp (𝕄 F) := ((c : Thread nD τ).loc cc0_stg0_0) ↦{fullShare} x
abbrev stg1 (k : KC F) : sProp (𝕄 F) := ((c : Thread nD τ).loc cc0_stg1_0) ↦{fullShare} k
abbrev stg2 (w : WC F) : sProp (𝕄 F) := ((c : Thread nD τ).loc cc0_stg2_0) ↦{fullShare} w
abbrev stg3 (o : OC F) : sProp (𝕄 F) := ((c : Thread nD τ).loc cc0_stg3_0) ↦{fullShare} o
abbrev scr0 (f : PC F) : sProp (𝕄 F) := ((c : Thread nD τ).loc cc0_scratch0) ↦{fullShare} f
abbrev scr1 (f : RC F) : sProp (𝕄 F) := ((c : Thread nD τ).loc cc0_scratch1) ↦{fullShare} f

theorem run_part1  {Q : _ → sProp (𝕄 F)} :
    iprop(Ctx P K c ∗ sigTok c 0 ∗ sigTok c 1 ∗ sigTok c 2 ∗ sigTok c 3 ∗ sigTok c 4 ∗ ownSlot c 6 ∗ ownSlot c 5 ∗ ownSlot c 4 ∗ ownSlot c 3 ∗ ownSlot c 2 ∗ owesAny c (bOwe c 7))
      ⊢ iprop((∀ v2 v24 w, owesAny c (bOwe c 2) -∗ Q ⟨c, v2, SemArray.scalar (sig.barrier 0 rfl), v24, w⟩) -∗ runs c (k0_part1 (F := F) xM (Memref.isWhole_whole _) kM (Memref.isWhole_whole _) wM (Memref.isWhole_whole _) oM (Memref.isWhole_whole _) pM (Memref.isWhole_whole _) rM (Memref.isWhole_whole _) cc0_scratch2 cc0_scratch3) Q) := by
  unfold runs
  rw [k0_part1_eq_skeleton]; unfold k0_part1_skel
  simp only [semSignalWord, semWaitWord, Prog.lift, Prog.bind_op, Prog.bind_ret, Prog.pure_eq_ret, wp_deviceId]
  iintro ⟨#HC, T0, T1, T2, T3, T4, S6, S5, S4, S3, S2, HO⟩ Hk
  iapply (step_signal P K c 0 _ (Fin.ext (k0_dev1_eq c)) _ (by decide) (bOwe c 7) (bOwe c 6) rfl) $$ [T0 S6 HO]
  · isplitr; · iexact HC
    isplitl [T0]; · iexact T0
    isplitl [S6]; · iexact S6
    iexact HO
  iintro HO
  iapply (step_signal P K c 1 _ (Fin.ext (k0_dev2_eq c)) _ (by decide) (bOwe c 6) (bOwe c 5) rfl) $$ [T1 S5 HO]
  · isplitr; · iexact HC
    isplitl [T1]; · iexact T1
    isplitl [S5]; · iexact S5
    iexact HO
  iintro HO
  iapply (step_signal P K c 2 _ (Fin.ext (k0_dev3_eq c)) _ (by decide) (bOwe c 5) (bOwe c 4) rfl) $$ [T2 S4 HO]
  · isplitr; · iexact HC
    isplitl [T2]; · iexact T2
    isplitl [S4]; · iexact S4
    iexact HO
  iintro HO
  iapply (step_signal P K c 3 _ (Fin.ext (k0_dev4_eq c)) _ (by decide) (bOwe c 4) (bOwe c 3) rfl) $$ [T3 S3 HO]
  · isplitr; · iexact HC
    isplitl [T3]; · iexact T3
    isplitl [S3]; · iexact S3
    iexact HO
  iintro HO
  iapply (step_signal P K c 4 _ (Fin.ext (k0_dev5_eq c)) _ (by decide) (bOwe c 3) (bOwe c 2) rfl) $$ [T4 S2 HO]
  · isplitr; · iexact HC
    isplitl [T4]; · iexact T4
    isplitl [S2]; · iexact S2
    iexact HO
  iintro HO
  rw [wp_ret]; imodintro
  iapply Hk

  iexact HO

theorem run_part2 (x : XC F) (q : KC F) (w : WC F) (v2 v24 w0 : BitVec 32) {Q : _ → sProp (𝕄 F)} :
    iprop(Ctx P K c ∗ sigTok c 5 ∗ sigTok c 6 ∗ ownSlot c 1 ∗ ownSlot c 0 ∗ cred (tallyAt (barCell c) () 7) ∗ atPos ER (barCell c) 0 ∅ 0 ∗ stg0 c x ∗ stg1 c q ∗ stg2 c w ∗ owesAny c (bOwe c 2))
      ⊢ iprop((owesAny c (sOwe c 7) ∗ semVal (barCell c) 0 ∗ (bigSep Finset.univ fun j => barPay c j) ∗ stg0 c x ∗ stg1 c q ∗ stg2 c w -∗ Q ⟨k0_pay2 x, halfOf x q w⟩) -∗ runs c (k0_part2 (F := F) xM (Memref.isWhole_whole _) kM (Memref.isWhole_whole _) wM (Memref.isWhole_whole _) oM (Memref.isWhole_whole _) pM (Memref.isWhole_whole _) rM (Memref.isWhole_whole _) cc0_scratch2 cc0_scratch3 c v2 (SemArray.scalar (sig.barrier 0 rfl)) v24 w0) Q) := by
  unfold runs
  rw [k0_part2_eq_skeleton]; unfold k0_part2_skel
  simp only [semSignalWord, semWaitWord, Prog.lift, Prog.bind_op, Prog.bind_ret, Prog.pure_eq_ret, wp_deviceId]
  iintro ⟨#HC, T5, T6, S1, S0, HCr, HA, Hx, Hq, Hw, HO⟩ Hk
  iapply (step_signal P K c 5 _ (Fin.ext (k0_dev6_eq c)) _ (by decide) (bOwe c 2) (bOwe c 1) rfl) $$ [T5 S1 HO]
  · isplitr; · iexact HC
    isplitl [T5]; · iexact T5
    isplitl [S1]; · iexact S1
    iexact HO
  iintro HO
  iapply (step_signal P K c 6 _ (Fin.ext (k0_dev7_eq c)) _ (by decide) (bOwe c 1) (bOwe c 0) rfl) $$ [T6 S0 HO]
  · isplitr; · iexact HC
    isplitl [T6]; · iexact T6
    isplitl [S0]; · iexact S0
    iexact HO
  iintro HO
  iapply (step_wait_bar P K c _ (by decide)) $$ [HCr HA HO]
  · isplitr; · iexact HC
    isplitl [HCr]; · iexact HCr
    isplitl [HA]; · iexact HA
    iexact HO
  iintro ⟨HO, HZ, HB⟩
  iapply (wp_load 𝒱₀ (c : Thread nD τ) none Set.univ (m := xM) (Finset.subset_univ _)) $$ Hx; iintro Hx
  rw [read_x]
  iapply (wp_load 𝒱₀ (c : Thread nD τ) none Set.univ (m := kM) (Finset.subset_univ _)) $$ Hq; iintro Hq
  iapply (wp_load 𝒱₀ (c : Thread nD τ) none Set.univ (m := wM) (Finset.subset_univ _)) $$ Hw; iintro Hw
  iapply (wp_load 𝒱₀ (c : Thread nD τ) none Set.univ (m := kM) (Finset.subset_univ _)) $$ Hq; iintro Hq
  iapply (wp_load 𝒱₀ (c : Thread nD τ) none Set.univ (m := wM) (Finset.subset_univ _)) $$ Hw; iintro Hw
  rw [wp_ret]; imodintro
  rw [← halfOf]
  iapply Hk

  isplitl [HO]; · iexact HO
  isplitl [HZ]; · iexact HZ
  isplitl [HB]; · iexact HB
  isplitl [Hx]; · iexact Hx
  isplitl [Hq]; · iexact Hq
  iexact Hw

theorem run_part3 (x : XC F) (q : KC F) (w : WC F) (f : PC F) (g : RC F) (v2 : BitVec 32) (hP : partOf x q w = P c) {Q : _ → sProp (𝕄 F)} :
    iprop(Ctx P K c ∗ stg1 c q ∗ stg2 c w ∗ scr0 c f ∗ recvPts c (slot 0) g)
      ⊢ iprop((∀ v85 v87 v88, stg1 c q ∗ stg2 c w ∗ scr0 c (P c) ∗ recvPts c (slot 0) (recvd P c) -∗ Q ⟨v85, v87, v88⟩) -∗ runs c (k0_part3 (F := F) xM (Memref.isWhole_whole _) kM (Memref.isWhole_whole _) wM (Memref.isWhole_whole _) oM (Memref.isWhole_whole _) pM (Memref.isWhole_whole _) rM (Memref.isWhole_whole _) cc0_scratch2 cc0_scratch3 c v2 (k0_pay2 x) (halfOf x q w)) Q) := by
  unfold runs
  rw [k0_part3_eq_skeleton]; unfold k0_part3_skel
  simp only [semSignalWord, semWaitWord, Prog.lift, Prog.bind_op, Prog.bind_ret, Prog.pure_eq_ret, wp_deviceId]
  iintro ⟨#HC, Hq, Hw, Hp, Hs⟩ Hk
  unfold recvPts
  iapply (wp_load 𝒱₀ (c : Thread nD τ) none Set.univ (m := kM) (Finset.subset_univ _)) $$ Hq; iintro Hq
  iapply (wp_load 𝒱₀ (c : Thread nD τ) none Set.univ (m := wM) (Finset.subset_univ _)) $$ Hw; iintro Hw
  iapply (wp_load 𝒱₀ (c : Thread nD τ) none Set.univ (m := kM) (Finset.subset_univ _)) $$ Hq; iintro Hq
  iapply (wp_load 𝒱₀ (c : Thread nD τ) none Set.univ (m := wM) (Finset.subset_univ _)) $$ Hw; iintro Hw
  iapply (wp_load 𝒱₀ (c : Thread nD τ) none Set.univ (m := pM) (Finset.subset_univ _)) $$ Hp; iintro Hp
  iapply (wp_store 𝒱₀ (c : Thread nD τ) none Set.univ (m := pM) (r := rp) (Mk := Finset.univ) (Finset.subset_univ _)) $$ Hp; iintro Hp
  rw [write_p]
  rw [← partOf, hP]
  iapply (wp_load 𝒱₀ (c : Thread nD τ) none Set.univ (m := pM) (Finset.subset_univ _)) $$ Hp; iintro Hp
  iapply (wp_load_rect 𝒱₀ (c : Thread nD τ) none Set.univ (m := rM) (r := rs0) (S := slot 0) (slot0_set ▸ Finset.Subset.refl _)) $$ Hs; iintro Hs
  iapply (wp_store 𝒱₀ (c : Thread nD τ) none Set.univ (m := rM) (r := rs0) (Mk := Finset.univ) (S := slot 0) (slot0_set ▸ Finset.Subset.refl _)) $$ Hs; iintro Hs
  rw [wp_ret]; imodintro
  iapply Hk

  isplitl [Hq]; · iexact Hq
  isplitl [Hw]; · iexact Hw
  isplitl [Hp]; · iexact Hp
  iapply (show (((c : Thread nD τ).loc cc0_scratch1) ↦[slot 0]{fullShare} ((rM.access rs0).write (Elt F) g (k0_pay5 (pM.view.readAt (Elt F) (rb c).toLoadRect (P c))) Finset.univ) : sProp (𝕄 F)) ⊢ (((c : Thread nD τ).loc cc0_scratch1) ↦[slot 0]{fullShare} recvd P c)
    from Entails.of_eq (pointsTo_congr (own_written P c g)))
  iexact Hs

theorem run_part4 (v2 v87 v88 : BitVec 32) {Q : _ → sProp (𝕄 F)} :
    iprop(Ctx P K c ∗ sendTok c 0 ∗ sendTok c 1 ∗ sendTok c 2 ∗ srcPts P c 0 ∗ srcPts P c 1 ∗ srcPts P c 2 ∗ barPay c 0 ∗ barPay c 1 ∗ barPay c 2 ∗ owesAny c (sOwe c 7))
      ⊢ iprop((∀ v97 v109, owesAny c (sOwe c 4) ∗ sendCr c 0 ∗ sendCr c 1 ∗ sendCr c 2 -∗ Q ⟨v97, v109⟩) -∗ runs c (k0_part4 (F := F) xM (Memref.isWhole_whole _) kM (Memref.isWhole_whole _) wM (Memref.isWhole_whole _) oM (Memref.isWhole_whole _) pM (Memref.isWhole_whole _) rM (Memref.isWhole_whole _) cc0_scratch2 cc0_scratch3 c v2 v87 v88) Q) := by
  unfold runs
  rw [k0_part4_eq_skeleton]; unfold k0_part4_skel
  simp only [semSignalWord, semWaitWord, Prog.lift, Prog.bind_op, Prog.bind_ret, Prog.pure_eq_ret, wp_deviceId]
  iintro ⟨#HC, T0, T1, T2, S0, S1, S2, B0, B1, B2, HO⟩ Hk
  iapply (step_send P K c 0 _ (Fin.ext (k0_dev8_eq c)) (sOwe c 7) (sOwe c 6) rfl) $$ [T0 S0 B0 HO]
  · isplitr; · iexact HC
    isplitl [T0]; · iexact T0
    isplitl [S0]; · iexact S0
    isplitl [B0]; · iexact B0
    iexact HO
  iintro ⟨C0, HO⟩
  iapply (step_send P K c 1 _ (Fin.ext (k0_dev9_eq c)) (sOwe c 6) (sOwe c 5) rfl) $$ [T1 S1 B1 HO]
  · isplitr; · iexact HC
    isplitl [T1]; · iexact T1
    isplitl [S1]; · iexact S1
    isplitl [B1]; · iexact B1
    iexact HO
  iintro ⟨C1, HO⟩
  iapply (step_send P K c 2 _ (Fin.ext (k0_dev10_eq c)) (sOwe c 5) (sOwe c 4) rfl) $$ [T2 S2 B2 HO]
  · isplitr; · iexact HC
    isplitl [T2]; · iexact T2
    isplitl [S2]; · iexact S2
    isplitl [B2]; · iexact B2
    iexact HO
  iintro ⟨C2, HO⟩
  rw [wp_ret]; imodintro
  iapply Hk

  isplitl [HO]; · iexact HO
  isplitl [C0]; · iexact C0
  isplitl [C1]; · iexact C1
  iexact C2

theorem run_part5 (v2 : BitVec 32) {Q : _ → sProp (𝕄 F)} :
    iprop(Ctx P K c ∗ sendTok c 3 ∗ sendTok c 4 ∗ srcPts P c 3 ∗ srcPts P c 4 ∗ barPay c 3 ∗ barPay c 4 ∗ owesAny c (sOwe c 4))
      ⊢ iprop((∀ v1 v3 v4 v5 v6, owesAny c (sOwe c 2) ∗ sendCr c 3 ∗ sendCr c 4 -∗ Q ⟨v1, v3, v4, v5, v6⟩) -∗ runs c (k0_part5 (F := F) xM (Memref.isWhole_whole _) kM (Memref.isWhole_whole _) wM (Memref.isWhole_whole _) oM (Memref.isWhole_whole _) pM (Memref.isWhole_whole _) rM (Memref.isWhole_whole _) cc0_scratch2 cc0_scratch3 c v2) Q) := by
  unfold runs
  rw [k0_part5_eq_skeleton]; unfold k0_part5_skel
  simp only [semSignalWord, semWaitWord, Prog.lift, Prog.bind_op, Prog.bind_ret, Prog.pure_eq_ret, wp_deviceId]
  iintro ⟨#HC, T3, T4, S3, S4, B3, B4, HO⟩ Hk
  iapply (step_send P K c 3 _ (Fin.ext (k0_dev11_eq c)) (sOwe c 4) (sOwe c 3) rfl) $$ [T3 S3 B3 HO]
  · isplitr; · iexact HC
    isplitl [T3]; · iexact T3
    isplitl [S3]; · iexact S3
    isplitl [B3]; · iexact B3
    iexact HO
  iintro ⟨C3, HO⟩
  iapply (step_send P K c 4 _ (Fin.ext (k0_dev12_eq c)) (sOwe c 3) (sOwe c 2) rfl) $$ [T4 S4 B4 HO]
  · isplitr; · iexact HC
    isplitl [T4]; · iexact T4
    isplitl [S4]; · iexact S4
    isplitl [B4]; · iexact B4
    iexact HO
  iintro ⟨C4, HO⟩
  rw [wp_ret]; imodintro
  iapply Hk

  isplitl [HO]; · iexact HO
  isplitl [C3]; · iexact C3
  iexact C4

theorem run_part6 (v2 v5 v6 : BitVec 32) {Q : _ → sProp (𝕄 F)} :
    iprop(Ctx P K c ∗ sendTok c 5 ∗ sendTok c 6 ∗ srcPts P c 5 ∗ srcPts P c 6 ∗ barPay c 5 ∗ barPay c 6 ∗ sendAt c 0 ∗ sendCr c 0 ∗ owesAny c (sOwe c 2))
      ⊢ iprop((∀ v, owesAny c (sOwe c 0) ∗ sendCr c 5 ∗ sendCr c 6 ∗ sendZ c 0 ∗ srcPts P c 0 -∗ Q v) -∗ runs c (k0_part6 (F := F) xM (Memref.isWhole_whole _) kM (Memref.isWhole_whole _) wM (Memref.isWhole_whole _) oM (Memref.isWhole_whole _) pM (Memref.isWhole_whole _) rM (Memref.isWhole_whole _) cc0_scratch2 cc0_scratch3 c v2 v5 v6) Q) := by
  unfold runs
  rw [k0_part6_eq_skeleton]; unfold k0_part6_skel
  simp only [semSignalWord, semWaitWord, Prog.lift, Prog.bind_op, Prog.bind_ret, Prog.pure_eq_ret, wp_deviceId]
  iintro ⟨#HC, T5, T6, S5, S6, B5, B6, A0, C0, HO⟩ Hk
  iapply (step_send P K c 5 _ (Fin.ext (k0_dev13_eq c)) (sOwe c 2) (sOwe c 1) rfl) $$ [T5 S5 B5 HO]
  · isplitr; · iexact HC
    isplitl [T5]; · iexact T5
    isplitl [S5]; · iexact S5
    isplitl [B5]; · iexact B5
    iexact HO
  iintro ⟨C5, HO⟩
  iapply (step_send P K c 6 _ (Fin.ext (k0_dev14_eq c)) (sOwe c 1) (sOwe c 0) rfl) $$ [T6 S6 B6 HO]
  · isplitr; · iexact HC
    isplitl [T6]; · iexact T6
    isplitl [S6]; · iexact S6
    isplitl [B6]; · iexact B6
    iexact HO
  iintro ⟨C6, HO⟩
  iapply (step_wait_send P K c 0) $$ [C0 A0 HO]
  · isplitr; · iexact HC
    isplitl [C0]; · iexact C0
    isplitl [A0]; · iexact A0
    iexact HO
  iintro ⟨HO, Z0, S0⟩
  rw [wp_ret]; imodintro
  iapply Hk

  isplitl [HO]; · iexact HO
  isplitl [C5]; · iexact C5
  isplitl [C6]; · iexact C6
  isplitl [Z0]; · iexact Z0
  iexact S0

theorem run_part7  {Q : _ → sProp (𝕄 F)} :
    iprop(Ctx P K c ∗ sendAt c 1 ∗ sendCr c 1 ∗ sendAt c 2 ∗ sendCr c 2 ∗ sendAt c 3 ∗ sendCr c 3 ∗ sendAt c 4 ∗ sendCr c 4 ∗ sendAt c 5 ∗ sendCr c 5 ∗ owesAny c 0)
      ⊢ iprop((owesAny c 0 ∗ sendZ c 1 ∗ srcPts P c 1 ∗ sendZ c 2 ∗ srcPts P c 2 ∗ sendZ c 3 ∗ srcPts P c 3 ∗ sendZ c 4 ∗ srcPts P c 4 ∗ sendZ c 5 ∗ srcPts P c 5 -∗ Q ⟨⟩) -∗ runs c (k0_part7 (F := F) xM (Memref.isWhole_whole _) kM (Memref.isWhole_whole _) wM (Memref.isWhole_whole _) oM (Memref.isWhole_whole _) pM (Memref.isWhole_whole _) rM (Memref.isWhole_whole _) cc0_scratch2 cc0_scratch3 c) Q) := by
  unfold runs
  rw [k0_part7_eq_skeleton]; unfold k0_part7_skel
  simp only [semSignalWord, semWaitWord, Prog.lift, Prog.bind_op, Prog.bind_ret, Prog.pure_eq_ret, wp_deviceId]
  iintro ⟨#HC, A1, C1, A2, C2, A3, C3, A4, C4, A5, C5, HO⟩ Hk
  iapply (step_wait_send P K c 1) $$ [C1 A1 HO]
  · isplitr; · iexact HC
    isplitl [C1]; · iexact C1
    isplitl [A1]; · iexact A1
    iexact HO
  iintro ⟨HO, Z1, S1⟩
  iapply (step_wait_send P K c 2) $$ [C2 A2 HO]
  · isplitr; · iexact HC
    isplitl [C2]; · iexact C2
    isplitl [A2]; · iexact A2
    iexact HO
  iintro ⟨HO, Z2, S2⟩
  iapply (step_wait_send P K c 3) $$ [C3 A3 HO]
  · isplitr; · iexact HC
    isplitl [C3]; · iexact C3
    isplitl [A3]; · iexact A3
    iexact HO
  iintro ⟨HO, Z3, S3⟩
  iapply (step_wait_send P K c 4) $$ [C4 A4 HO]
  · isplitr; · iexact HC
    isplitl [C4]; · iexact C4
    isplitl [A4]; · iexact A4
    iexact HO
  iintro ⟨HO, Z4, S4⟩
  iapply (step_wait_send P K c 5) $$ [C5 A5 HO]
  · isplitr; · iexact HC
    isplitl [C5]; · iexact C5
    isplitl [A5]; · iexact A5
    iexact HO
  iintro ⟨HO, Z5, S5⟩
  rw [wp_ret]; imodintro
  iapply Hk

  isplitl [HO]; · iexact HO
  isplitl [Z1]; · iexact Z1
  isplitl [S1]; · iexact S1
  isplitl [Z2]; · iexact Z2
  isplitl [S2]; · iexact S2
  isplitl [Z3]; · iexact Z3
  isplitl [S3]; · iexact S3
  isplitl [Z4]; · iexact Z4
  isplitl [S4]; · iexact S4
  isplitl [Z5]; · iexact Z5
  iexact S5

theorem run_part8 (v85 v97 v109 v121 : BitVec 32) {Q : _ → sProp (𝕄 F)} :
    iprop(Ctx P K c ∗ sendAt c 6 ∗ sendCr c 6 ∗ recvAt c 0 ∗ recvCr c 0 ∗ recvAt c 1 ∗ recvCr c 1 ∗ recvAt c 2 ∗ recvCr c 2 ∗ owesAny c 0)
      ⊢ iprop((∀ v, owesAny c 0 ∗ sendZ c 6 ∗ srcPts P c 6 ∗ recvZ c 0 ∗ inSlot P c 0 ∗ recvZ c 1 ∗ inSlot P c 1 ∗ recvZ c 2 ∗ inSlot P c 2 -∗ Q v) -∗ runs c (k0_part8 (F := F) xM (Memref.isWhole_whole _) kM (Memref.isWhole_whole _) wM (Memref.isWhole_whole _) oM (Memref.isWhole_whole _) pM (Memref.isWhole_whole _) rM (Memref.isWhole_whole _) cc0_scratch2 cc0_scratch3 c v85 v97 v109 v121) Q) := by
  unfold runs
  rw [k0_part8_eq_skeleton]; unfold k0_part8_skel
  simp only [semSignalWord, semWaitWord, Prog.lift, Prog.bind_op, Prog.bind_ret, Prog.pure_eq_ret, wp_deviceId]
  iintro ⟨#HC, A6, C6, A0, C0, A1, C1, A2, C2, HO⟩ Hk
  iapply (step_wait_send P K c 6) $$ [C6 A6 HO]
  · isplitr; · iexact HC
    isplitl [C6]; · iexact C6
    isplitl [A6]; · iexact A6
    iexact HO
  iintro ⟨HO, Z6, S6⟩
  iapply (step_wait_recv P K c 0) $$ [C0 A0 HO]
  · isplitr; · iexact HC
    isplitl [C0]; · iexact C0
    isplitl [A0]; · iexact A0
    iexact HO
  iintro ⟨HO, Z0, S0⟩
  iapply (step_wait_recv P K c 1) $$ [C1 A1 HO]
  · isplitr; · iexact HC
    isplitl [C1]; · iexact C1
    isplitl [A1]; · iexact A1
    iexact HO
  iintro ⟨HO, Z1, S1⟩
  iapply (step_wait_recv P K c 2) $$ [C2 A2 HO]
  · isplitr; · iexact HC
    isplitl [C2]; · iexact C2
    isplitl [A2]; · iexact A2
    iexact HO
  iintro ⟨HO, Z2, S2⟩
  rw [wp_ret]; imodintro
  iapply Hk

  isplitl [HO]; · iexact HO
  isplitl [Z6]; · iexact Z6
  isplitl [S6]; · iexact S6
  isplitl [Z0]; · iexact Z0
  isplitl [S0]; · iexact S0
  isplitl [Z1]; · iexact Z1
  isplitl [S1]; · iexact S1
  isplitl [Z2]; · iexact Z2
  iexact S2

theorem run_part9 (v133 v145 v157 v224 : BitVec 32) {Q : _ → sProp (𝕄 F)} :
    iprop(Ctx P K c ∗ recvAt c 3 ∗ recvCr c 3 ∗ recvAt c 4 ∗ recvCr c 4 ∗ recvAt c 5 ∗ recvCr c 5 ∗ recvAt c 6 ∗ recvCr c 6 ∗ owesAny c 0)
      ⊢ iprop((owesAny c 0 ∗ recvZ c 3 ∗ inSlot P c 3 ∗ recvZ c 4 ∗ inSlot P c 4 ∗ recvZ c 5 ∗ inSlot P c 5 ∗ recvZ c 6 ∗ inSlot P c 6 -∗ Q ⟨⟩) -∗ runs c (k0_part9 (F := F) xM (Memref.isWhole_whole _) kM (Memref.isWhole_whole _) wM (Memref.isWhole_whole _) oM (Memref.isWhole_whole _) pM (Memref.isWhole_whole _) rM (Memref.isWhole_whole _) cc0_scratch2 cc0_scratch3 c v133 v145 v157 v224) Q) := by
  unfold runs
  rw [k0_part9_eq_skeleton]; unfold k0_part9_skel
  simp only [semSignalWord, semWaitWord, Prog.lift, Prog.bind_op, Prog.bind_ret, Prog.pure_eq_ret, wp_deviceId]
  iintro ⟨#HC, A3, C3, A4, C4, A5, C5, A6, C6, HO⟩ Hk
  iapply (step_wait_recv P K c 3) $$ [C3 A3 HO]
  · isplitr; · iexact HC
    isplitl [C3]; · iexact C3
    isplitl [A3]; · iexact A3
    iexact HO
  iintro ⟨HO, Z3, S3⟩
  iapply (step_wait_recv P K c 4) $$ [C4 A4 HO]
  · isplitr; · iexact HC
    isplitl [C4]; · iexact C4
    isplitl [A4]; · iexact A4
    iexact HO
  iintro ⟨HO, Z4, S4⟩
  iapply (step_wait_recv P K c 5) $$ [C5 A5 HO]
  · isplitr; · iexact HC
    isplitl [C5]; · iexact C5
    isplitl [A5]; · iexact A5
    iexact HO
  iintro ⟨HO, Z5, S5⟩
  iapply (step_wait_recv P K c 6) $$ [C6 A6 HO]
  · isplitr; · iexact HC
    isplitl [C6]; · iexact C6
    isplitl [A6]; · iexact A6
    iexact HO
  iintro ⟨HO, Z6, S6⟩
  rw [wp_ret]; imodintro
  iapply Hk

  isplitl [HO]; · iexact HO
  isplitl [Z3]; · iexact Z3
  isplitl [S3]; · iexact S3
  isplitl [Z4]; · iexact Z4
  isplitl [S4]; · iexact S4
  isplitl [Z5]; · iexact Z5
  isplitl [S5]; · iexact S5
  isplitl [Z6]; · iexact Z6
  iexact S6

theorem bigSep_fin7 (Φ : Fin 7 → sProp (𝕄 F)) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- What the body starts from besides its buffers: every cell of its own at its start, every duty it will pay, the credit it will
    spend. -/
def start : sProp (𝕄 F) :=
  iprop(Ctx P K c ∗ (bigSep Finset.univ fun k => sigTok c k) ∗ (bigSep Finset.univ fun k => sendTok c k) ∗ cred (tallyAt (barCell c) () 7)
    ∗ atPos ER (barCell c) 0 ∅ 0 ∗ (bigSep Finset.univ fun k => sendAt c k) ∗ (bigSep Finset.univ fun k => recvAt c k) ∗ (bigSep Finset.univ fun k => recvCr c k))

/-- The whole body. -/
theorem sound_body (x : XC F) (q : KC F) (w : WC F) (hP : partOf x q w = P c) (Q : PUnit → sProp (𝕄 F)) :
    iprop(start P K c ∗ (∃ f, scr0 c f) ∗ (∃ g, scr1 c g) ∗ owesAny c (bOwe c 7) ∗ stg0 c x ∗ stg1 c q ∗ stg2 c w ∗ (∃ o, stg3 c o))
      ⊢ iprop(((semVal (barCell c) 0 ∗ (bigSep Finset.univ fun k => sendZ c k) ∗ (bigSep Finset.univ fun k => recvZ c k) ∗ scr0 c (P c) ∗ scr1 c (recvd P c)
            ∗ owesAny c 0 ∗ stg0 c x ∗ stg1 c q ∗ stg2 c w ∗ stg3 c (outOf (recvd P c))) -∗ Q ⟨⟩)
          -∗ runs c (cc0_body (F := F) xM (Memref.isWhole_whole _) kM (Memref.isWhole_whole _) wM (Memref.isWhole_whole _) oM (Memref.isWhole_whole _) pM (Memref.isWhole_whole _) rM (Memref.isWhole_whole _) cc0_scratch2 cc0_scratch3) Q) := by
  unfold runs start
  rw [cc0_body_eq_skeleton]; unfold cc0_body_skel
  iintro ⟨⟨#HC, HT, HU, HCr, HA, HAs, HAr, HE⟩, ⟨%f, Hp⟩, ⟨%g, Hr⟩, HO, Hx, Hq, Hw, ⟨%o, Ho⟩⟩ Hk
  ihave HT := (Entails.of_eq (bigSep_fin7 _)) $$ HT
  icases HT with ⟨T0, T1, T2, T3, T4, T5, T6⟩
  ihave HU := (Entails.of_eq (bigSep_fin7 _)) $$ HU
  icases HU with ⟨U0, U1, U2, U3, U4, U5, U6⟩
  ihave HAs := (Entails.of_eq (bigSep_fin7 _)) $$ HAs
  icases HAs with ⟨A0, A1, A2, A3, A4, A5, A6⟩
  ihave HAr := (Entails.of_eq (bigSep_fin7 _)) $$ HAr
  icases HAr with ⟨D0, D1, D2, D3, D4, D5, D6⟩
  ihave HE := (Entails.of_eq (bigSep_fin7 _)) $$ HE
  icases HE with ⟨E0, E1, E2, E3, E4, E5, E6⟩
  ihave Hr := (Entails.of_eq (recv_split c g)) $$ Hr
  icases Hr with ⟨Hs, Hr⟩
  ihave Hr := (show (bigSep Finset.univ fun k : Fin 7 => recvPts c (slot k.succ) g) ⊢ (bigSep Finset.univ fun k : Fin 7 => ownSlot (F := F) c k) from bigSep_mono fun k _ => by show _ ⊢ iprop(∃ f, recvPts c (slot k.succ) f); iintro H; iexists g; iexact H) $$ Hr
  ihave Hr := (Entails.of_eq (bigSep_fin7 _)) $$ Hr
  icases Hr with ⟨S0, S1, S2, S3, S4, S5, S6⟩
  rw [wp_bind]
  iapply (run_part1 P K c ) $$ [T0 T1 T2 T3 T4 S6 S5 S4 S3 S2 HO]
  · isplitr; · iexact HC
    isplitl [T0]; · iexact T0
    isplitl [T1]; · iexact T1
    isplitl [T2]; · iexact T2
    isplitl [T3]; · iexact T3
    isplitl [T4]; · iexact T4
    isplitl [S6]; · iexact S6
    isplitl [S5]; · iexact S5
    isplitl [S4]; · iexact S4
    isplitl [S3]; · iexact S3
    isplitl [S2]; · iexact S2
    iexact HO
  iintro %v2 %v24 %w0 HO
  try dsimp only
  rw [wp_bind]
  iapply (run_part2 P K c x q w v2 v24 w0) $$ [T5 T6 S1 S0 HCr HA Hx Hq Hw HO]
  · isplitr; · iexact HC
    isplitl [T5]; · iexact T5
    isplitl [T6]; · iexact T6
    isplitl [S1]; · iexact S1
    isplitl [S0]; · iexact S0
    isplitl [HCr]; · iexact HCr
    isplitl [HA]; · iexact HA
    isplitl [Hx]; · iexact Hx
    isplitl [Hq]; · iexact Hq
    isplitl [Hw]; · iexact Hw
    iexact HO
  iintro ⟨HO, HZ, HB, Hx, Hq, Hw⟩
  try dsimp only
  rw [wp_bind]
  iapply (run_part3 P K c x q w f g v2 hP) $$ [Hq Hw Hp Hs]
  · isplitr; · iexact HC
    isplitl [Hq]; · iexact Hq
    isplitl [Hw]; · iexact Hw
    isplitl [Hp]; · iexact Hp
    iexact Hs
  iintro %v85 %v87 %v88 ⟨Hq, Hw, Hp, Hs⟩
  try dsimp only
  ihave Hp := (Entails.of_eq (part_split c (P c))) $$ Hp
  icases Hp with ⟨Hown, Hp⟩
  ihave Hp := (Entails.of_eq (bigSep_fin7 _)) $$ Hp
  icases Hp with ⟨S0, S1, S2, S3, S4, S5, S6⟩
  ihave HB := (Entails.of_eq (bigSep_fin7 _)) $$ HB
  icases HB with ⟨B0, B1, B2, B3, B4, B5, B6⟩
  rw [wp_bind]
  iapply (run_part4 P K c v2 v87 v88) $$ [U0 U1 U2 S0 S1 S2 B0 B1 B2 HO]
  · isplitr; · iexact HC
    isplitl [U0]; · iexact U0
    isplitl [U1]; · iexact U1
    isplitl [U2]; · iexact U2
    isplitl [S0]; · iexact S0
    isplitl [S1]; · iexact S1
    isplitl [S2]; · iexact S2
    isplitl [B0]; · iexact B0
    isplitl [B1]; · iexact B1
    isplitl [B2]; · iexact B2
    iexact HO
  iintro %v97 %v109 ⟨HO, C0, C1, C2⟩
  try dsimp only
  rw [wp_bind]
  iapply (run_part5 P K c v2) $$ [U3 U4 S3 S4 B3 B4 HO]
  · isplitr; · iexact HC
    isplitl [U3]; · iexact U3
    isplitl [U4]; · iexact U4
    isplitl [S3]; · iexact S3
    isplitl [S4]; · iexact S4
    isplitl [B3]; · iexact B3
    isplitl [B4]; · iexact B4
    iexact HO
  iintro %v121 %v133 %v145 %v147 %v148 ⟨HO, C3, C4⟩
  try dsimp only
  rw [wp_bind]
  iapply (run_part6 P K c v2 v147 v148) $$ [U5 U6 S5 S6 B5 B6 A0 C0 HO]
  · isplitr; · iexact HC
    isplitl [U5]; · iexact U5
    isplitl [U6]; · iexact U6
    isplitl [S5]; · iexact S5
    isplitl [S6]; · iexact S6
    isplitl [B5]; · iexact B5
    isplitl [B6]; · iexact B6
    isplitl [A0]; · iexact A0
    isplitl [C0]; · iexact C0
    iexact HO
  iintro %v157 ⟨HO, C5, C6, Z0, S0⟩
  try dsimp only
  rw [wp_bind]
  iapply (run_part7 P K c ) $$ [A1 C1 A2 C2 A3 C3 A4 C4 A5 C5 HO]
  · isplitr; · iexact HC
    isplitl [A1]; · iexact A1
    isplitl [C1]; · iexact C1
    isplitl [A2]; · iexact A2
    isplitl [C2]; · iexact C2
    isplitl [A3]; · iexact A3
    isplitl [C3]; · iexact C3
    isplitl [A4]; · iexact A4
    isplitl [C4]; · iexact C4
    isplitl [A5]; · iexact A5
    isplitl [C5]; · iexact C5
    iexact HO
  iintro ⟨HO, Z1, S1, Z2, S2, Z3, S3, Z4, S4, Z5, S5⟩
  try dsimp only
  rw [wp_bind]
  iapply (run_part8 P K c v85 v97 v109 v121) $$ [A6 C6 D0 E0 D1 E1 D2 E2 HO]
  · isplitr; · iexact HC
    isplitl [A6]; · iexact A6
    isplitl [C6]; · iexact C6
    isplitl [D0]; · iexact D0
    isplitl [E0]; · iexact E0
    isplitl [D1]; · iexact D1
    isplitl [E1]; · iexact E1
    isplitl [D2]; · iexact D2
    isplitl [E2]; · iexact E2
    iexact HO
  iintro %v224 ⟨HO, Z6, S6, Y0, R0, Y1, R1, Y2, R2⟩
  try dsimp only
  rw [wp_bind]
  iapply (run_part9 P K c v133 v145 v157 v224) $$ [D3 E3 D4 E4 D5 E5 D6 E6 HO]
  · isplitr; · iexact HC
    isplitl [D3]; · iexact D3
    isplitl [E3]; · iexact E3
    isplitl [D4]; · iexact D4
    isplitl [E4]; · iexact E4
    isplitl [D5]; · iexact D5
    isplitl [E5]; · iexact E5
    isplitl [D6]; · iexact D6
    isplitl [E6]; · iexact E6
    iexact HO
  iintro ⟨HO, Y3, R3, Y4, R4, Y5, R5, Y6, R6⟩
  try dsimp only
  ihave Hr := (show iprop(recvPts c (slot 0) (recvd P c) ∗ inSlot P c 0 ∗ inSlot P c 1 ∗ inSlot P c 2 ∗ inSlot P c 3 ∗ inSlot P c 4 ∗ inSlot P c 5 ∗ inSlot P c 6) ⊢ scr1 c (recvd P c) from
      Entails.of_eq ((congrArg (fun X => iprop(recvPts c (slot 0) (recvd P c) ∗ X)) (bigSep_fin7 (fun k : Fin 7 => inSlot P c k)).symm).trans (recv_split c (recvd P c)).symm)) $$ [Hs R0 R1 R2 R3 R4 R5 R6]
  · isplitl [Hs]; · iexact Hs
    isplitl [R0]; · iexact R0
    isplitl [R1]; · iexact R1
    isplitl [R2]; · iexact R2
    isplitl [R3]; · iexact R3
    isplitl [R4]; · iexact R4
    isplitl [R5]; · iexact R5
    iexact R6
  ihave Hp := (show iprop(partPts c (rows c) (P c) ∗ srcPts P c 0 ∗ srcPts P c 1 ∗ srcPts P c 2 ∗ srcPts P c 3 ∗ srcPts P c 4 ∗ srcPts P c 5 ∗ srcPts P c 6) ⊢ scr0 c (P c) from
      Entails.of_eq ((congrArg (fun X => iprop(partPts c (rows c) (P c) ∗ X)) (bigSep_fin7 (fun k : Fin 7 => srcPts P c k)).symm).trans (part_split c (P c)).symm)) $$ [Hown S0 S1 S2 S3 S4 S5 S6]
  · isplitl [Hown]; · iexact Hown
    isplitl [S0]; · iexact S0
    isplitl [S1]; · iexact S1
    isplitl [S2]; · iexact S2
    isplitl [S3]; · iexact S3
    isplitl [S4]; · iexact S4
    isplitl [S5]; · iexact S5
    iexact S6
  simp only [Prog.lift, Prog.bind_op, Prog.bind_ret, Prog.pure_eq_ret]
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := oM) (Finset.subset_univ _)) $$ Ho; iintro Ho
  iapply (wp_store 𝒱₀ (c : Thread nD τ) none Set.univ (m := oM) (r := ro) (Mk := Finset.univ) (Finset.subset_univ _)) $$ Ho; iintro Ho
  rw [write_o, ← outOf, wp_ret]; imodintro
  iapply Hk
  isplitl [HZ]; · iexact HZ
  isplitl [Z0 Z1 Z2 Z3 Z4 Z5 Z6]
  · rw [bigSep_fin7]
    isplitl [Z0]; · iexact Z0
    isplitl [Z1]; · iexact Z1
    isplitl [Z2]; · iexact Z2
    isplitl [Z3]; · iexact Z3
    isplitl [Z4]; · iexact Z4
    isplitl [Z5]; · iexact Z5
    iexact Z6
  isplitl [Y0 Y1 Y2 Y3 Y4 Y5 Y6]
  · rw [bigSep_fin7]
    isplitl [Y0]; · iexact Y0
    isplitl [Y1]; · iexact Y1
    isplitl [Y2]; · iexact Y2
    isplitl [Y3]; · iexact Y3
    isplitl [Y4]; · iexact Y4
    isplitl [Y5]; · iexact Y5
    iexact Y6
  isplitl [Hp]; · iexact Hp
  isplitl [Hr]; · iexact Hr
  isplitl [HO]; · iexact HO
  isplitl [Hx]; · iexact Hx
  isplitl [Hq]; · iexact Hq
  isplitl [Hw]; · iexact Hw
  iexact Ho

end Cert.MoeProof

end
-- ==== Proof.Region.lean ====
/-
  The kernel region as a segment of the program: what its windows hold, the body's obligation to the pipeline, and the record of
  a region whose kernel talks across devices.
-/
module

public import proofs.«01_k».proof.Proof.Body
public import Idealize.ShloMosaic.Lib.Pipeline.ValueKit.Geometry

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

/-! ## The kernel's own semaphores -/

/-- The two entries of the semaphore arrays the kernel never uses, then the seven send and the seven receive ones. -/
abbrev osem : Fin 2 ⊕ (Fin 2 × Fin 7) → SemLoc sig
  | .inl 0 => .dma ⟨4, by decide⟩
  | .inl 1 => .dma ⟨12, by decide⟩
  | .inr p => csem p

theorem osem_facts : Pipeline.OwnSemFacts spec0 osem := by decide

/-- The two unused counters, at zero. -/
def idle0 (c : Dev nD) : sProp (𝕄 F) := bigSep Finset.univ fun i : Fin 2 => semVal ((c : Thread nD τ), osem (.inl i)) 0

omit [FloatOps F] in
theorem ownSems0_eq (c : Dev nD) :
    (Pipeline.ownSems0 (Ix := Unit) (Name := ℕ) (U := UU) (Lvl := ℕ) (Val := Elt F) (τ := τ) osem c : sProp (𝕄 F))
      = iprop(idle0 c ∗ (bigSep Finset.univ fun k => sendZ c k) ∗ bigSep Finset.univ fun k => recvZ c k) := by
  unfold Pipeline.ownSems0 idle0
  rw [BI.bigSep_univ_sum, bigSep_univ_prod, BI.bigSep_fin_two (fun i : Fin 2 => bigSep Finset.univ fun k : Fin 7 => (semVal ((c : Thread nD τ), osem (.inr (i, k))) 0 : sProp (𝕄 F)))]
  rfl

/-! ## Contents -/

variable (m : (ℓ : Loc nD τ sig) → Buf (Elt F) ℓ)

/-- The three staged inputs as the pipeline fetches them. -/
def xstg (c : Dev nD) : XC F := (win0_0.blk t0_0).view.read (Elt F) (V3 m c main_arg0)
def kstg (c : Dev nD) : KC F := (win0_1.blk t0_0).view.read (Elt F) (V3 m c main_v21)
def wstg (c : Dev nD) : WC F := (win0_2.blk t0_0).view.read (Elt F) (V3 m c main_arg3)
/-- Each device's partial product. -/
def PP (c : Dev nD) : PC F := partOf (xstg m c) (kstg m c) (wstg m c)
/-- What the kernel leaves on each device. -/
def outAt (c : Dev nD) : OC F := outOf (recvd (PP m) c)

/-! ## The proof data -/

/-- What the body starts from, its buffers apart. -/
def Xk (c : Dev nD) : sProp (𝕄 F) := iprop((∃ K, start (PP m) K c) ∗ idle0 c)
/-- The two scratch buffers, at contents not chosen. -/
def scrAny (c : Dev nD) : sProp (𝕄 F) := iprop((∃ f, scr0 c f) ∗ ∃ g, scr1 c g)
/-- The barrier counter at the end. -/
def Yk (c : Dev nD) : sProp (𝕄 F) := semVal (barCell c) 0

def phi0 (c : Dev nD) : sProp (𝕄 F) := iprop(Xk m c ∗ scrAny c ∗ ∃ r, prngReg c r)
def phi1 (c : Dev nD) : sProp (𝕄 F) :=
  iprop(Yk c ∗ (idle0 c ∗ (bigSep Finset.univ fun k => sendZ c k) ∗ bigSep Finset.univ fun k => recvZ c k) ∗ scrAny c ∗ ∃ r, prngReg c r)

def dat0 (c : Dev nD) : Dat τ (Elt F) Unit ℕ UU ℕ cfg0 c where
  A w := match w with
    | ⟨0, _⟩ => V3 m c main_arg0
    | ⟨1, _⟩ => V3 m c main_v21
    | ⟨2, _⟩ => V3 m c main_arg3
    | ⟨3, _⟩ => V3 m c main_v22
  after w _ := match w with
    | ⟨0, _⟩ => xstg m c
    | ⟨1, _⟩ => kstg m c
    | ⟨2, _⟩ => wstg m c
    | ⟨3, _⟩ => outAt m c
  Φ t := if t.val = 0 then phi0 m c else phi1 c
  q _ := fullShare
  owed t := if t.val = 0 then O₀ c else 0

def pdats : (p : Fin 1) → (c : Dev nD) → Dat τ (Elt F) Unit ℕ UU ℕ (cfgs p) c := fun _ => dat0 m

theorem last_ne : ¬ (Fin.last cfg0.N).val = 0 := by rw [Fin.val_last, show cfg0.N = 1 from N_0]; decide
theorem succ_ne : ¬ (t0_0.succ : Fin (cfg0.N + 1)).val = 0 := Nat.succ_ne_zero _

theorem owed_zero (c : Dev nD) : (dat0 m c).owed 0 = O₀ c := by
  show (if ((0 : Fin (cfg0.N + 1)).val = 0) then O₀ c else 0) = O₀ c; exact if_pos rfl
theorem owed_first (c : Dev nD) : (dat0 m c).owed t0_0.castSucc = O₀ c := by
  show (if ((t0_0.castSucc : Fin (cfg0.N + 1)).val = 0) then O₀ c else 0) = O₀ c; exact if_pos rfl
theorem owed_succ (c : Dev nD) : (dat0 m c).owed t0_0.succ = 0 := by
  show (if ((t0_0.succ : Fin (cfg0.N + 1)).val = 0) then O₀ c else 0) = 0; exact if_neg succ_ne
theorem owed_last (c : Dev nD) : (dat0 m c).owed (Fin.last _) = 0 := by
  show (if ((Fin.last cfg0.N).val = 0) then O₀ c else 0) = 0; exact if_neg last_ne
theorem phi_zero (c : Dev nD) : (dat0 m c).Φ 0 = phi0 m c := by
  show (if ((0 : Fin (cfg0.N + 1)).val = 0) then phi0 m c else phi1 c) = _; exact if_pos rfl
theorem phi_first (c : Dev nD) : (dat0 m c).Φ t0_0.castSucc = phi0 m c := by
  show (if ((t0_0.castSucc : Fin (cfg0.N + 1)).val = 0) then phi0 m c else phi1 c) = _; exact if_pos rfl
theorem phi_succ (c : Dev nD) : (dat0 m c).Φ t0_0.succ = phi1 c := by
  show (if ((t0_0.succ : Fin (cfg0.N + 1)).val = 0) then phi0 m c else phi1 c) = _; exact if_neg succ_ne
theorem phi_last (c : Dev nD) : (dat0 m c).Φ (Fin.last _) = phi1 c := by
  show (if ((Fin.last cfg0.N).val = 0) then phi0 m c else phi1 c) = _; exact if_neg last_ne

theorem owes_in (c : Dev nD) (t : Fin (cfg0.N + 1)) (O : CellTallies nD τ sig Unit) (h : (dat0 m c).owed t = O) :
    owesAny c O ⊢ ((dat0 m c).owesAt () t : sProp (𝕄 F)) := by
  unfold owesAny Dat.owesAt Pipeline.owesWithin Dat.bound
  rw [h, show (dat0 m c).recorded t = Set.univ from rfl]
  iintro ⟨%W, HO⟩
  iexists W; isplitr; · ipureintro; exact fun _ _ => Or.inl trivial
  iexact HO
theorem owes_out (c : Dev nD) (t : Fin (cfg0.N + 1)) (O : CellTallies nD τ sig Unit) (h : (dat0 m c).owed t = O) :
    ((dat0 m c).owesAt () t : sProp (𝕄 F)) ⊢ owesAny c O := by
  unfold owesAny Dat.owesAt Pipeline.owesWithin
  rw [h]
  iintro ⟨%W, -, HO⟩
  iexists W; iexact HO

/-! ## The body's obligation -/

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp (𝕄 F))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev holds (c : Dev nD) (b : Ref sig .tc) (X : b.ty.Contents (Elt F)) : sProp (𝕄 F) :=
  iprop(∃ f : Buf (Elt F) (((c : Dev nD) : Thread nD τ).loc b), ⌜f = X⌝ ∗ (((c : Thread nD τ).loc b) ↦{fullShare} f))

def bodyPre (c : Dev nD) : sProp (𝕄 F) :=
  iprop(phi0 m c ∗ (dat0 m c).owesAt () t0_0.castSucc
    ∗ (∃ d, holds c cc0_stg0_0 ((dat0 m c).before (0 : Fin 4) t0_0 d))
    ∗ (∃ d, holds c cc0_stg1_0 ((dat0 m c).before (1 : Fin 4) t0_0 d))
    ∗ (∃ d, holds c cc0_stg2_0 ((dat0 m c).before (2 : Fin 4) t0_0 d))
    ∗ (∃ d, holds c cc0_stg3_0 ((dat0 m c).before (3 : Fin 4) t0_0 d)))
def bodyPost (c : Dev nD) : sProp (𝕄 F) :=
  iprop(phi1 c ∗ (dat0 m c).owesAt () t0_0.succ
    ∗ holds c cc0_stg0_0 (xstg m c) ∗ holds c cc0_stg1_0 (kstg m c) ∗ holds c cc0_stg2_0 (wstg m c) ∗ holds c cc0_stg3_0 (outAt m c))

set_option maxHeartbeats 800000 in
theorem body_run (c : Dev nD) (Kt : PUnit → sProp (𝕄 F)) :
    iprop(bodyPre m c ∗ (bodyPost m c -∗ Kt ⟨⟩))
      ⊢ runs c (cc0_body (F := F) xM (Memref.isWhole_whole _) kM (Memref.isWhole_whole _) wM (Memref.isWhole_whole _) oM (Memref.isWhole_whole _) pM (Memref.isWhole_whole _) rM (Memref.isWhole_whole _) cc0_scratch2 cc0_scratch3) Kt := by
  unfold bodyPre phi0 Xk scrAny
  iintro ⟨⟨⟨⟨⟨%K, Hst⟩, Hid⟩, ⟨Hp, Hr⟩, Hreg⟩, HO, ⟨%d0, %g0, %h0, Hx⟩, ⟨%d1, %g1, %h1, Hq⟩, ⟨%d2, %g2, %h2, Hw⟩, ⟨%d3, %g3, %h3, Ho⟩⟩, Hk⟩
  have e0 : g0 = xstg m c := by rw [h0]; unfold Dat.before; rw [if_pos (fetch0_0 t0_0)]; rfl
  have e1 : g1 = kstg m c := by rw [h1]; unfold Dat.before; rw [if_pos (fetch0_1 t0_0)]; rfl
  have e2 : g2 = wstg m c := by rw [h2]; unfold Dat.before; rw [if_pos (fetch0_2 t0_0)]; rfl
  subst e0 e1 e2
  ihave HO := (owes_out m c _ (O₀ c) (owed_first m c)) $$ HO
  iapply (sound_body (PP m) K c (xstg m c) (kstg m c) (wstg m c) rfl Kt) $$ [Hst Hp Hr HO Hx Hq Hw Ho]
  · isplitl [Hst]; · iexact Hst
    isplitl [Hp]; · iexact Hp
    isplitl [Hr]; · iexact Hr
    isplitl [HO]; · iexact HO
    isplitl [Hx]; · iexact Hx
    isplitl [Hq]; · iexact Hq
    isplitl [Hw]; · iexact Hw
    iexists g3; iexact Ho
  iintro ⟨Hb, HS, HR, Hp, Hr, HO, Hx, Hq, Hw, Ho⟩
  iapply Hk
  unfold bodyPost phi1 Yk scrAny
  isplitl [Hb Hid HS HR Hp Hr Hreg]
  · isplitl [Hb]; · iexact Hb
    isplitl [Hid HS HR]
    · isplitl [Hid]; · iexact Hid
      isplitl [HS] <;> iassumption
    isplitl [Hp Hr]
    · isplitl [Hp]
      · iexists PP m c; iexact Hp
      · iexists recvd (PP m) c; iexact Hr
    iexact Hreg
  isplitl [HO]; · iapply (owes_in m c t0_0.succ 0 (owed_succ m c)); iexact HO
  isplitl [Hx]; · iexists xstg m c; isplitr; · ipureintro; rfl
                  iexact Hx
  isplitl [Hq]; · iexists kstg m c; isplitr; · ipureintro; rfl
                  iexact Hq
  isplitl [Hw]; · iexists wstg m c; isplitr; · ipureintro; rfl
                  iexact Hw
  iexists outAt m c; isplitr; · ipureintro; rfl
  iexact Ho

theorem body_only (c : Dev nD) :
    bodyPre m c ⊢ runs c (cc0_body (F := F) xM (Memref.isWhole_whole _) kM (Memref.isWhole_whole _) wM (Memref.isWhole_whole _) oM (Memref.isWhole_whole _) pM (Memref.isWhole_whole _) rM (Memref.isWhole_whole _) cc0_scratch2 cc0_scratch3)
      (fun _ => bodyPost m c) := by
  iintro H
  iapply (body_run m c (fun _ => bodyPost m c))
  isplitl [H]; · iexact H
  iintro H; iexact H

theorem body_ok (c : Dev nD) : BodyObligation (dat0 m c) (defs₀ (F := F)) 𝒱₀ () Set.univ := fun t => by
  obtain rfl := fin_N0 t
  rw [bigSep_W0, bigSep_W0]
  rw [phi_first m c, phi_succ m c]
  simp only [owns_whole]
  exact body_only m c

/-! ## Opening the kernel's cells as the region is entered -/

section Open

variable (P : Dev nD → PC F) (K : GSem nD τ sig → ℕ) (c : Dev nD)

omit [FloatOps F] in
theorem open_cells (cell : Fin 7 → GSem nD τ sig) (hmem : ∀ k, cell k ∈ (barCells ∪ scCells : Finset (GSem nD τ sig))) :
    iprop(records P K ∗ (bigSep Finset.univ fun k => openTok ER (cell k)) ∗ bigSep Finset.univ fun k => semVal (cell k) 0)
      ⊢ (|={Set.univ}=> iprop((bigSep Finset.univ fun k => atPos ER (cell k) 0 ∅ 0) ∗ bigSep Finset.univ fun k => reached ER (cell k) 0) : sProp (𝕄 F)) := by
  have one (k : Fin 7) (_ : k ∈ Finset.univ) : iprop(records P K ∗ (openTok ER (cell k) ∗ semVal (cell k) 0))
      ⊢ (|={Set.univ}=> iprop(atPos ER (cell k) 0 ∅ 0 ∗ reached ER (cell k) 0) : sProp (𝕄 F)) := by
    iintro ⟨#HR, Ho, Hz⟩
    iapply (Rounds.cell_open ER (Rd P) (g := cell k) (Set.mem_univ (K (cell k))))
    isplitr; · iapply (inv_at P K (hmem k)); iexact HR
    isplitl [Ho] <;> iassumption
  iintro ⟨#HR, Ho, Hz⟩
  imod ((bigSep_with_persistent one).trans (BI.bigSep_fupd Finset.univ _)) $$ [Ho Hz] with H
  · isplitr; · iexact HR
    iapply (Entails.of_eq (bigSep_sep' (s := Finset.univ) (Φ := fun k : Fin 7 => (openTok ER (cell k) : sProp (𝕄 F))) (Ψ := fun k => semVal (cell k) 0)).symm)
    isplitl [Ho] <;> iassumption
  imodintro
  iapply (Entails.of_eq (bigSep_sep' (s := Finset.univ) (Φ := fun k : Fin 7 => (atPos ER (cell k) 0 ∅ 0 : sProp (𝕄 F))) (Ψ := fun k => reached ER (cell k) 0)))
  iexact H

end Open

/-- What stays with a device at launch: its barrier position, its rights to open its cells, the duties it pays. -/
def linear (c : Dev nD) : sProp (𝕄 F) :=
  iprop(atPos ER (barCell c) 0 ∅ 0 ∗ ((bigSep Finset.univ fun k => openTok ER (sendCell c k)) ∗ bigSep Finset.univ fun k => openTok ER (recvCell c k))
    ∗ ((bigSep Finset.univ fun k => sigTok c k) ∗ bigSep Finset.univ fun k => sendTok c k))

/-- What the launch keeps for the region. -/
def Tk (c : Dev nD) : sProp (𝕄 F) :=
  iprop((∃ K, records (PP m) K ∗ linear c) ∗ cred (tallyAt (barCell c) () 7) ∗ bigSep Finset.univ fun k => recvCr c k)

theorem hopen (c : Dev nD) : iprop(Tk m c ∗ Pipeline.ownSems0 osem c ∗ levAts L lv) ⊢ (|={Set.univ}=> Xk m c : sProp (𝕄 F)) := by
  rw [ownSems0_eq]
  unfold Tk Xk linear start Ctx
  iintro ⟨⟨⟨%K, #HR, HA, ⟨HoS, HoR⟩, HT, HU⟩, HcB, HcR⟩, ⟨Hid, HzS, HzR⟩, #Hlev⟩
  imod (open_cells (PP m) K (fun k => sendCell c k) (fun k => send_mem c k)) $$ [HoS HzS] with ⟨HaS, #HrS⟩
  · isplitr; · iexact HR
    isplitl [HoS] <;> iassumption
  imod (open_cells (PP m) K (fun k => recvCell c k) (fun k => recv_mem c k)) $$ [HoR HzR] with ⟨HaR, #HrR⟩
  · isplitr; · iexact HR
    isplitl [HoR] <;> iassumption
  imodintro
  isplitr [Hid]
  · iexists K
    isplitr
    · isplitr; · iexact HR
      isplitr; · iexact HrS
      isplitr; · iexact HrR
      iexact Hlev
    isplitl [HT]; · iexact HT
    isplitl [HU]; · iexact HU
    isplitl [HcB]; · iexact HcB
    isplitl [HA]; · iexact HA
    isplitl [HaS]; · iexact HaS
    isplitl [HaR] <;> iassumption
  iexact Hid

/-! ## The record -/

/-- What the region leaves in the result's array. -/
def outs : Outs (F := F) := fun _ r c => if h : r = main_v22 then h ▸ (dat0 m c).arrAt 3 cfg0.N else V3 m c r

theorem V4_out (c : Dev nD) : V4 m (outs m) c main_v22 = (dat0 m c).arrAt 3 cfg0.N := by
  show Function.update (V3 m c) (Proc.devRef .tc main_v22) (outs m 4 main_v22 c) (Proc.devRef .tc main_v22) = _
  rw [Function.update_self]
  unfold outs; rw [dif_pos rfl]

abbrev restRefs : Finset (DevRef τ sig) := Pipeline.ucRefs τ sig \ Pipeline.arrRefs (τ := τ) spec0

theorem arr_sub : Pipeline.arrRefs (τ := τ) spec0 ⊆ Pipeline.ucRefs τ sig := Pipeline.arrRefs_sub_ucRefs spec0 winFacts0.arr_unscoped

theorem out_mem : Proc.devRef .tc main_v22 ∈ Pipeline.arrRefs (τ := τ) spec0 := by decide

theorem V4_rest (c : Dev nD) (b : DevRef τ sig) (hb : b ∈ restRefs) : V4 m (outs m) c b = V3 m c b := by
  show Function.update (V3 m c) (Proc.devRef .tc main_v22) _ b = _
  exact Function.update_of_ne (fun h => (Finset.mem_sdiff.mp hb).2 (by rw [h]; exact out_mem)) _ _

theorem arr_first (c : Dev nD) (w : Fin 4) : (dat0 m c).arrAt w 0 = V3 m c (Proc.devRef .tc (Pipeline.arrRef spec0 w)) := by
  fin_cases w <;> rfl

theorem arr_last (c : Dev nD) (w : Fin 4) : (dat0 m c).arrAt w cfg0.N = V4 m (outs m) c (Proc.devRef .tc (Pipeline.arrRef spec0 w)) := by
  fin_cases w
  · exact ((dat0 m c).arrAt_in (0 : Fin 4) rfl _).trans (V4_of m (outs m) c main_arg0 (by decide)).symm
  · exact ((dat0 m c).arrAt_in (1 : Fin 4) rfl _).trans (V4_of m (outs m) c main_v21 (by decide)).symm
  · exact ((dat0 m c).arrAt_in (2 : Fin 4) rfl _).trans (V4_of m (outs m) c main_arg3 (by decide)).symm
  · exact (V4_out m c).symm

theorem hin (c : Dev nD) :
    iprop(Pipeline.scopedRest (Ix := Unit) (Name := ℕ) (U := UU) (Lvl := ℕ) (Val := Elt F) spec0 c ∗ (∃ r, prngReg c r) ∗ StableHlo.held (c.tc : Thread nD τ) ∅ (V3 m c) ∗ Xk m c)
      ⊢ (dat0 m c).Φ 0 := by
  rw [phi_zero, scopedRest0_eq]
  unfold phi0 scrAny
  iintro ⟨Hs, Hp, -, HX⟩
  isplitl [HX]; · iexact HX
  isplitl [Hs] <;> iassumption

theorem hout (c : Dev nD) : (dat0 m c).Φ (Fin.last cfg0.N)
    ⊢ iprop(Pipeline.scopedRest (Ix := Unit) (Name := ℕ) (U := UU) (Lvl := ℕ) (Val := Elt F) spec0 c ∗ (∃ r, prngReg c r)
        ∗ StableHlo.held (c.tc : Thread nD τ) ∅ (V4 m (outs m) c) ∗ Pipeline.ownSems0 osem c ∗ Yk c) := by
  rw [phi_last, scopedRest0_eq, ownSems0_eq, show (StableHlo.held (c.tc : Thread nD τ) ∅ (V4 m (outs m) c) : sProp (𝕄 F)) = BI.emp from BI.bigSep_empty]
  unfold phi1 scrAny
  iintro ⟨HY, Hz, Hs, Hp⟩
  isplitl [Hs]; · iexact Hs
  isplitl [Hp]; · iexact Hp
  isplitr; · iempintro
  isplitl [Hz] <;> iassumption

theorem lv_stage : ∀ (w : Fin 4) (s : Fin (spec0 w).nbuf), role (.dma ((spec0 w).sem s)) ≠ .bar ∧ ∀ k, role (.dma ((spec0 w).sem s)) ≠ .recv k := by decide

theorem cut_owed (c : Dev nD) (t : Fin (cfg0.N + 1)) (g : GSem nD τ sig) (i : Unit) (h : 0 < (dat0 m c).owed t g i) : i ∈ L g ∧ (0 : ℕ) < lv g i := by
  have e : (dat0 m c).owed t = if t.val = 0 then O₀ c else 0 := rfl
  rw [e] at h
  split at h
  · rcases bOwe_pos 7 h with ⟨k, rfl⟩ | ⟨k, rfl⟩
    · exact ⟨by rw [L_tc]; exact Finset.mem_singleton_self _, by rw [show i = () from rfl, lv_bar]; decide⟩
    · exact ⟨by rw [L_tc]; exact Finset.mem_singleton_self _, by rw [show i = () from rfl, lv_recv]; decide⟩
  · exact absurd h (Nat.lt_irrefl 0)

theorem cut_stage (c : Dev nD) (w : Fin 4) (s : Fin (spec0 w).nbuf) : lv ((c : Thread nD τ), .dma ((spec0 w).sem s)) () ≤ 0 := by
  obtain ⟨h1, h2⟩ := lv_stage w s
  dsimp only [lv]
  split
  · rename_i h; exact absurd h h1
  · rename_i k h; exact absurd h (h2 k)
  · exact le_rfl

theorem kit : Pipeline.PLaunchFacts (nD := nD) (τ := τ) (pcfgs (F := F)) 0 := launch0.toP

set_option backward.isDefEq.respectTransparency.types false in
def reg0 : RegionSeg (pcfgs (F := F)) adm (pdats m) () defs₀ 𝒱₀ L lv 0 :=
  RegionSeg.ofTalk (pcfgs (F := F)) adm (pdats m) () defs₀ 𝒱₀ L lv 0 osem osem_facts
    ∅ restRefs (Finset.empty_subset _) kit rfl (fun c => (body_ok m c).loose)
    (fun _ => 0) O₀ (fun c => (owed_zero m c).trans (zero_add _).symm) (owed_last m) (fun _ => rfl)
    (fun c w => by show (if _ then fullShare else fullShare) = fullShare; split <;> rfl)
    (V3 m) (V4 m (outs m)) (fun c b hb => V4_rest m c b (Finset.mem_sdiff.mp hb).1)
    (Tk m) Yk (Xk m) Yk (hopen m) (hin m) (hout m)
    (fun c => by iintro H; imodintro; iexact H)
    (fun _ => 0)
    ⟨fun c w s => by rw [L_tc]; exact Finset.mem_singleton_self _, fun c w s => cut_stage c w s, fun c t g i h => cut_owed m c t g i h⟩
    (fun _ => iprop(emp))
    (arr_first m) (arr_last m)

/-- What rides beside the unscoped buffers before the region, and after it. -/
def E (j : Fin 2) (c : Dev nD) : sProp (𝕄 F) :=
  match j with
  | 0 => iprop((∃ r, prngReg c r) ∗ Tk m c ∗ owesAny c (O₀ c))
  | 1 => iprop(Yk c ∗ owesAny c 0)

theorem reg0_pre (c : Dev nD) : iprop(StableHlo.held (c : Thread nD τ) (Pipeline.ucRefs τ sig) (V3 m c) ∗ E m 0 c) ⊢ (reg0 m).pre c := by
  show _ ⊢ iprop(StableHlo.held (c.tc : Thread nD τ) (Pipeline.arrRefs (τ := τ) spec0) (V3 m c) ∗ (∃ r, prngReg c r)
    ∗ (StableHlo.held (c.tc : Thread nD τ) restRefs (V3 m c) ∗ emp) ∗ Tk m c ∗ ∃ Wd, owes (c : Thread nD τ) (0 + O₀ c) Wd)
  rw [zero_add, StableHlo.held_sub_split (c.tc : Thread nD τ) arr_sub (V3 m c)]
  unfold E owesAny
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem reg0_post (c : Dev nD) : (reg0 m).post c ⊢ iprop(StableHlo.held (c : Thread nD τ) (Pipeline.ucRefs τ sig) (V4 m (outs m) c) ∗ E m 1 c) := by
  show iprop(StableHlo.held (c.tc : Thread nD τ) (Pipeline.arrRefs (τ := τ) spec0) (V4 m (outs m) c) ∗ (∃ r, prngReg c r)
    ∗ (StableHlo.held (c.tc : Thread nD τ) restRefs (V4 m (outs m) c) ∗ emp) ∗ Yk c ∗ ∃ Wd, owes (c : Thread nD τ) (0 : CellTallies nD τ sig Unit) Wd) ⊢ _
  rw [StableHlo.held_sub_split (c.tc : Thread nD τ) arr_sub (V4 m (outs m) c)]
  unfold E owesAny
  iintro ⟨Ha, -, ⟨Hr, -⟩, HY, HO⟩
  isplitl [Ha Hr]
  · isplitl [Ha] <;> iassumption
  isplitl [HY] <;> iassumption

end Cert.MoeProof

end
-- ==== Proof.Launch.lean ====
/-
  The launch and the whole run: the cells and tokens made at launch and dealt to the devices, the credit each device can spend,
  and the run of the program on eight devices: what the result array holds at the end, the arguments unchanged, every counter
  at zero.
-/
module

public import proofs.«01_k».proof.Proof.Region

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]
variable (m : (ℓ : Loc nD τ sig) → Buf (Elt F) ℓ) (ρ : Dev nD → PrngReg)

/-! ## The tokens of the duties -/

/-- Per device: seven duties at its barrier cell, one at each send cell, one at each receive cell. -/
abbrev tokSem : Fin 3 × Fin 7 → SemLoc sig × Fin 7
  | (0, k) => (.reg barS, k)
  | (1, k) => (.dma (sendS k), 0)
  | (2, k) => (.dma (recvS k), 0)

theorem tokSem_inj : Function.Injective tokSem := by decide

def allToks : Finset (GSem nD τ sig × ℕ × Fin 7) :=
  Finset.univ.map ⟨fun p : Dev nD × (Fin 3 × Fin 7) => (((p.1 : Thread nD τ), (tokSem p.2).1), 0, (tokSem p.2).2), fun _ _ h =>
    Prod.ext (congrArg (fun t : GSem nD τ sig × ℕ × Fin 7 => t.1.1.1) h)
      (tokSem_inj (Prod.ext (congrArg (fun t : GSem nD τ sig × ℕ × Fin 7 => t.1.2) h) (congrArg (fun t : GSem nD τ sig × ℕ × Fin 7 => t.2.2) h)))⟩

/-- The tokens at one device's own cells. -/
def toks (c : Dev nD) : sProp (𝕄 F) :=
  iprop((bigSep Finset.univ fun k : Fin 7 => dutyTok ER (barCell c) 0 k) ∗ (bigSep Finset.univ fun k : Fin 7 => dutyTok ER (sendCell c k) 0 0)
    ∗ bigSep Finset.univ fun k : Fin 7 => dutyTok ER (recvCell c k) 0 0)

omit [FloatOps F] in
theorem bigSep_fin3 (Φ : Fin 3 → sProp (𝕄 F)) : bigSep Finset.univ Φ = iprop(Φ 0 ∗ Φ 1 ∗ Φ 2) :=
  bigSep_univ_eq_bigSepL [0, 1, 2] (by decide) (by decide) Φ

omit [FloatOps F] in
theorem toks_eq : bigSep allToks (fun x => (dutyTok ER x.1 x.2.1 x.2.2 : sProp (𝕄 F))) = bigSep Finset.univ fun c : Dev nD => toks c := by
  unfold allToks; rw [bigSep_map, bigSep_univ_prod]
  exact bigSep_congr fun c _ => by unfold toks; rw [bigSep_univ_prod, bigSep_fin3]; rfl

omit [FloatOps F] in
/-- The barrier tokens, each with the device that pays it; -/
theorem bar_around : (bigSep Finset.univ fun c : Dev nD => bigSep Finset.univ fun k : Fin 7 => (dutyTok ER (barCell c) 0 k : sProp (𝕄 F)))
    = bigSep Finset.univ fun c : Dev nD => bigSep Finset.univ fun k : Fin 7 => sigTok c k := by
  have h (c : Dev nD) : (bigSep Finset.univ fun k : Fin 7 => (dutyTok ER (barCell c) 0 k : sProp (𝕄 F))) = bigSep Finset.univ fun k : Fin 7 => dutyTok ER (barCell c) 0 k.rev :=
    BI.bigSep_univ_equiv Fin.revPerm (fun k : Fin 7 => (dutyTok ER (barCell c) 0 k : sProp (𝕄 F)))
  rw [show (fun c : Dev nD => bigSep Finset.univ fun k : Fin 7 => (dutyTok ER (barCell c) 0 k : sProp (𝕄 F))) = fun c => bigSep Finset.univ fun k : Fin 7 => dutyTok ER (barCell c) 0 k.rev from funext h,
    BI.bigSep_univ_comm, BI.bigSep_univ_comm (fun (c : Dev nD) (k : Fin 7) => sigTok (F := F) c k)]
  exact bigSep_congr fun k _ => BI.bigSep_univ_equiv (turn k) (fun c : Dev nD => (dutyTok ER (barCell c) 0 k.rev : sProp (𝕄 F)))

omit [FloatOps F] in
/-- and the receive tokens. -/
theorem recv_around : (bigSep Finset.univ fun c : Dev nD => bigSep Finset.univ fun k : Fin 7 => (dutyTok ER (recvCell c k) 0 0 : sProp (𝕄 F)))
    = bigSep Finset.univ fun c : Dev nD => bigSep Finset.univ fun k : Fin 7 => dutyTok ER (recvCell (rot c k) k) 0 0 := by
  rw [BI.bigSep_univ_comm, BI.bigSep_univ_comm (fun (c : Dev nD) (k : Fin 7) => (dutyTok ER (recvCell (rot c k) k) 0 0 : sProp (𝕄 F)))]
  exact bigSep_congr fun k _ => BI.bigSep_univ_equiv (turn k) (fun c : Dev nD => (dutyTok ER (recvCell c k) 0 0 : sProp (𝕄 F)))

omit [FloatOps F] in
theorem toks_around : (bigSep Finset.univ fun c : Dev nD => (toks c : sProp (𝕄 F)))
    = bigSep Finset.univ fun c : Dev nD => iprop((bigSep Finset.univ fun k => sigTok c k) ∗ bigSep Finset.univ fun k => sendTok c k) := by
  unfold toks sendTok
  rw [bigSep_sep', bigSep_sep', bigSep_sep', bar_around, recv_around, ← bigSep_sep' (Φ := fun c : Dev nD => bigSep Finset.univ fun k : Fin 7 => (dutyTok ER (sendCell c k) 0 0 : sProp (𝕄 F)))]
  exact congrArg (fun X => iprop(_ ∗ X)) (bigSep_congr fun c _ => (bigSep_sep' (s := Finset.univ) (Φ := fun k : Fin 7 => (dutyTok ER (sendCell c k) 0 0 : sProp (𝕄 F))) (Ψ := fun k => dutyTok ER (recvCell (rot c k) k) 0 0)).symm)

/-! ## The launch credit -/

theorem owed_sum (d : Dev nD) : O₀ d = (∑ k : Fin 7, tallyAt (recvCell (rot d k) k) () N) + ∑ k : Fin 7, tallyAt (barCell (rot d k)) () 1 := by
  have hs : sOwe d 7 = ∑ k : Fin 7, tallyAt (recvCell (rot d k) k) () N := by
    rw [Fin.sum_univ_seven]
    show 0 + tallyAt (recvCell (rot d 6) 6) () N + tallyAt (recvCell (rot d 5) 5) () N + tallyAt (recvCell (rot d 4) 4) () N + tallyAt (recvCell (rot d 3) 3) () N
      + tallyAt (recvCell (rot d 2) 2) () N + tallyAt (recvCell (rot d 1) 1) () N + tallyAt (recvCell (rot d 0) 0) () N = _
    rw [zero_add]; ac_rfl
  rw [← hs, Fin.sum_univ_seven]
  show sOwe d 7 + tallyAt (barCell (rot d 6)) () 1 + tallyAt (barCell (rot d 5)) () 1 + tallyAt (barCell (rot d 4)) () 1 + tallyAt (barCell (rot d 3)) () 1
      + tallyAt (barCell (rot d 2)) () 1 + tallyAt (barCell (rot d 1)) () 1 + tallyAt (barCell (rot d 0)) () 1 = _
  ac_rfl

theorem owed_at (d : Dev nD) (g : GSem nD τ sig) :
    O₀ d g () = (∑ k : Fin 7, if g = recvCell (rot d k) k then N else 0) + ∑ k : Fin 7, if g = barCell (rot d k) then 1 else 0 := by
  have hx (f : Fin 7 → CellTallies nD τ sig Unit) : (∑ k, f k) g () = ∑ k, f k g () := by
    rw [Finset.sum_apply, Finsupp.finset_sum_apply]
  rw [owed_sum, Pi.add_apply, Finsupp.add_apply, hx, hx]
  refine congrArg₂ (· + ·) (Finset.sum_congr rfl fun k _ => ?_) (Finset.sum_congr rfl fun k _ => ?_) <;>
    · rw [tallyAt_apply]; simp only [and_true]

theorem bar_eq (c d : Dev nD) : barCell c = barCell d ↔ c = d :=
  ⟨fun h => congrArg (fun g : GSem nD τ sig => g.1.1) h, fun h => h ▸ rfl⟩
theorem recvS_inj : ∀ k k' : Fin 7, (SemLoc.dma (recvS k) : SemLoc sig) = .dma (recvS k') → k = k' := by decide
theorem recv_eq (c d : Dev nD) (k k' : Fin 7) : recvCell c k = recvCell d k' ↔ c = d ∧ k = k' :=
  ⟨fun h => ⟨congrArg (fun g : GSem nD τ sig => g.1.1) h, recvS_inj k k' (congrArg Prod.snd h)⟩, fun h => by rw [h.1, h.2]⟩
theorem recvS_ne_bar : ∀ k : Fin 7, (SemLoc.dma (recvS k) : SemLoc sig) ≠ .reg barS := by decide
theorem recv_ne_bar (c d : Dev nD) (k : Fin 7) : recvCell c k ≠ barCell d := fun h => recvS_ne_bar k (congrArg Prod.snd h)

theorem count_bar : ∀ c : Dev nD, (∑ d : Dev nD, ∑ k : Fin 7, if c = rot d k then 1 else 0) = 7 := by decide +kernel
theorem count_recv : ∀ (c : Dev nD) (k : Fin 7), (∑ d : Dev nD, ∑ k' : Fin 7, if c = rot d k' ∧ k = k' then 1 else 0) = 1 := by decide +kernel

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, ← count_bar c]
  refine Finset.sum_congr rfl fun d _ => ?_
  rw [owed_at, Finset.sum_eq_zero (fun k _ => if_neg (recv_ne_bar _ _ _).symm), zero_add]
  exact Finset.sum_congr rfl fun k _ => if_congr (bar_eq _ _) rfl rfl

theorem launch_recv (c : Dev nD) (k : Fin 7) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same]
  have e : (∑ d : Dev nD, O₀ d (recvCell c k) ()) = (∑ d : Dev nD, ∑ k' : Fin 7, if c = rot d k' ∧ k = k' then 1 else 0) * N := by
    rw [Finset.sum_mul]
    refine Finset.sum_congr rfl fun d _ => ?_
    rw [owed_at, Finset.sum_eq_zero (s := Finset.univ) (f := fun k' : Fin 7 => if recvCell c k = barCell (rot d k') then 1 else 0) (fun k' _ => if_neg (recv_ne_bar _ _ _)), add_zero, Finset.sum_mul]
    refine Finset.sum_congr rfl fun k' _ => ?_
    rw [ite_mul, one_mul, zero_mul]
    exact if_congr (recv_eq _ _ _ _) rfl rfl
  rw [e, count_recv, one_mul]

def recvEmb : Fin 7 ↪ SemLoc sig := ⟨fun k => .dma (recvS k), fun k k' h => recvS_inj k k' h⟩

omit [FloatOps F] in
theorem creds (c : Dev nD) : (Pipeline.launchCred O₀ c : sProp (𝕄 F)) ⊢ iprop(cred (tallyAt (barCell c) () 7) ∗ bigSep Finset.univ fun k => recvCr c k) := by
  unfold Pipeline.launchCred
  rw [bigSep_univ_at _ (SemLoc.reg barS), launch_bar]
  refine sep_mono_right ?_
  have hsub : Finset.univ.map recvEmb ⊆ Finset.univ.erase (SemLoc.reg barS : SemLoc sig) := fun s hs => by
    obtain ⟨k, -, rfl⟩ := Finset.mem_map.mp hs
    exact Finset.mem_erase.mpr ⟨recvS_ne_bar k, Finset.mem_univ _⟩
  refine BI.Entails.trans (BI.bigSep_subset hsub) ?_
  rw [bigSep_map]
  exact bigSep_mono fun k _ => Entails.of_eq (congrArg cred (launch_recv c k))

/-! ## The launch -/

def u₀ : UU :=
  (initOf (Pipeline.cells cfgs cellOf_inj) (Pipeline.launchToks cfgs cellOf_inj), launchOf barCells scCells allToks)

/-- A resource, all of it on device 0. -/
def atDev0 (X : sProp (𝕄 F)) (c : Dev nD) : sProp (𝕄 F) := if c = 0 then X else iprop(emp)
omit [FloatOps F] in
theorem bigSep_atDev0 (X : sProp (𝕄 F)) : bigSep Finset.univ (atDev0 X) = X := by
  rw [bigSep_univ_at _ 0, bigSep_congr (s := Finset.univ.erase 0) (Ψ := fun _ => (BI.emp : sProp (𝕄 F)))
      fun c hc => by unfold atDev0; rw [if_neg (Finset.ne_of_mem_erase hc)]; rfl, BI.bigSep_emp_const]
  unfold atDev0; rw [if_pos rfl]
  exact BI.equiv_iff.mp sep_emp

def G : Dev nD → sProp (𝕄 F) := atDev0 (BI.own (ER (launchOf barCells scCells allToks)))

omit [FloatOps F] in
theorem unscopedSems0_eq (c : Dev nD) : (unscopedSems0 c : sProp (𝕄 F)) = semVal (barCell c) 0 := by
  unfold unscopedSems0; rw [bigSep_eq_bigSepL_of_eq [SemLoc.reg barS] (by decide) (by decide)]; rfl

/-- A device's launch holdings, the protocol's own state apart. -/
def bundle (c : Dev nD) : sProp (𝕄 F) :=
  iprop(StableHlo.held (c : Thread nD τ) (Pipeline.ucRefs τ sig) (V0 m c) ∗ (cred (tallyAt (barCell c) () 7) ∗ bigSep Finset.univ fun k => recvCr c k)
    ∗ owesAny c (O₀ c) ∗ ∃ r, prngReg c r)

abbrev T₀ (c : Dev nD) : sProp (𝕄 F) := iprop(StableHlo.held (c : Thread nD τ) (Pipeline.ucRefs τ sig) (V0 m c) ∗ E m 0 c)
abbrev Tₙ (c : Dev nD) : sProp (𝕄 F) := iprop(StableHlo.held (c : Thread nD τ) (Pipeline.ucRefs τ sig) (V4 m (outs m) c) ∗ Yk c)

theorem T₀_intro (κ : GSem nD τ sig → ℕ) (c : Dev nD) : iprop(records (PP m) κ ∗ (linear c ∗ bundle m c)) ⊢ T₀ m c := by
  unfold bundle T₀ E Tk
  iintro ⟨#HR, Hl, Hh, Hc, HO, Hp⟩
  isplitl [Hh]; · iexact Hh
  isplitl [Hp]; · iexact Hp
  isplitl [Hl Hc]
  · isplitl [Hl]
    · iexists κ
      isplitr; · iexact HR
      iexact Hl
    iexact Hc
  iexact HO

theorem core_bundle (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp (𝕄 F)) := by
  rw [show unscopedBufs c (fun b => m ((c : Thread nD τ).loc b)) = StableHlo.held (c : Thread nD τ) (Pipeline.ucRefs τ sig) (V0 m c) from
      (Pipeline.unscopedBufs_held (Ix := Unit) (Name := ℕ) (U := UU) (Lvl := ℕ) c (V0 m c)), unscopedSems0_eq]
  unfold bundle owesAny
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexists ∅; iexact HO
    iexists (ρ c); iexact Hp
  isplitl [Hus] <;> iassumption

omit [FloatOps F] in
theorem sep_all {Φ Ψ : Dev nD → sProp (𝕄 F)} : bigSep Finset.univ (fun c => iprop(Φ c ∗ Ψ c)) = iprop(bigSep Finset.univ Φ ∗ bigSep Finset.univ Ψ) := bigSep_sep' _ _ _

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp (𝕄 F)) := by
  have hv : bigSep Finset.univ (fun c : Dev nD => (semVal (barCell c) 0 : sProp (𝕄 F))) ⊢ bigSep barCells (fun g => (semVal g 0 : sProp (𝕄 F))) :=
    Entails.of_eq (bigSep_map (s := Finset.univ) barEmb (Φ := fun g : GSem nD τ sig => (semVal g 0 : sProp (𝕄 F)))).symm
  have hat : bigSep barCells (fun g => (atPos ER g 0 ∅ 0 : sProp (𝕄 F))) ⊢ bigSep Finset.univ (fun c : Dev nD => (atPos ER (barCell c) 0 ∅ 0 : sProp (𝕄 F))) :=
    Entails.of_eq (bigSep_map (s := Finset.univ) barEmb (Φ := fun g : GSem nD τ sig => (atPos ER g 0 ∅ 0 : sProp (𝕄 F))))
  have hop : bigSep scCells (fun g => (openTok ER g : sProp (𝕄 F)))
      ⊢ bigSep Finset.univ (fun c : Dev nD => iprop((bigSep Finset.univ fun k => openTok ER (sendCell c k)) ∗ bigSep Finset.univ fun k => openTok ER (recvCell c k))) :=
    Entails.of_eq (by
      rw [bigSep_map, bigSep_univ_prod]
      exact bigSep_congr fun c _ => by
        rw [bigSep_univ_prod]
        exact BI.bigSep_fin_two (fun i : Fin 2 => bigSep Finset.univ fun k : Fin 7 => (openTok ER ((c : Thread nD τ), csem (i, k)) : sProp (𝕄 F))))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp (𝕄 F)) from bigSep_mono fun c _ => core_bundle m ρ c) $$ H
  ihave H2 := (Entails.of_eq (sep_all (F := F))) $$ H'; icases H2 with ⟨HB, H3⟩
  ihave H4 := (Entails.of_eq (sep_all (F := F))) $$ H3; icases H4 with ⟨Hv, HG⟩
  ihave Hu := (show bigSep Finset.univ (G (F := F)) ⊢ BI.own (ER (launchOf barCells scCells allToks)) from
    Entails.of_eq (bigSep_atDev0 (F := F) (BI.own (ER (launchOf barCells scCells allToks))))) $$ HG
  imod (Rounds.fund_launch ER (Rd (PP m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records (PP m) κ) (Φ := fun c => iprop(linear c ∗ bundle m c)) fun c _ => T₀_intro m κ c)
  isplitr
  · unfold records
    isplitr; · iexact Hinv
    iexact Hr
  iapply (Entails.of_eq (sep_all (F := F)).symm)
  isplitr [HB]
  · unfold linear
    iapply (Entails.of_eq (sep_all (F := F)).symm); isplitl [Hat]; · iapply hat $$ Hat
    iapply (Entails.of_eq (sep_all (F := F)).symm); isplitl [Hopen]; · iapply hop $$ Hopen
    iapply (Entails.of_eq (toks_around (F := F)))
    iapply (Entails.of_eq (toks_eq (F := F))) $$ Htok
  · iexact HB

theorem unscoped_eq : ∀ sm : SemLoc sig, sm.isScoped .tc = false → sm = .reg barS := by decide

/-- The result array at the end: what the kernel leaves. -/
theorem final_out (c : Dev nD) : (dat0 m c).arrAt 3 cfg0.N = outAt m c := by
  refine (dat0 m c).arrAt_eq_of_covers (3 : Fin 4) (outAt m c) (by decide +kernel) fun t hf y => ?_
  obtain rfl := fin_N0 t
  blk_simp
  show outAt m c y = outAt m c _
  refine congrArg (outAt m c) (funext fun a => Fin.ext ?_)
  fin_cases a
  · show (y 0).val = 0 * 64 + 1 * (y 0).val
    omega
  · show (y 1).val = 0 * 512 + 1 * (y 1).val
    omega

/-- What the run leaves on a device: the kernel's result, the arguments unchanged. -/
abbrev Left (c : Dev nD) (s : MemSt nD τ sig (Elt F)) : Prop :=
  s.mem ((c : Thread nD τ).loc main_v22) = outAt m c
    ∧ s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)

abbrev QY (c : Dev nD) (s : MemSt nD τ sig (Elt F)) : Prop := Left m c s ∧ s.sem (barCell c) = 0

theorem read_end (c : Dev nD) (s' : Phys nD τ sig (Elt F)) :
    iprop(Tₙ m c ∗ SI s') ⊢ (|={Set.univ}=> iprop(⌜QY m c s'.mem⌝ ∗ SI s') : sProp (𝕄 F)) := by
  unfold Tₙ StableHlo.held Yk
  iintro ⟨⟨Hh, Hb0⟩, HSI⟩
  icombine HSI Hb0 gives %hb
  ihave Hr := (pointsTo_read_all (Pipeline.ucRefs τ sig) (fun b => ((c : Thread nD τ).1, b)) (V4 m (outs m) c) s') $$ [Hh HSI]
  · isplitl [Hh] <;> iassumption
  icases Hr with ⟨%h, HSI⟩
  imodintro
  isplitr [HSI]
  · ipureintro
    refine ⟨⟨(h main_v22 (Finset.mem_filter.mpr ⟨StableHlo.devRef_mem_tcRefs main_v22, by decide⟩)).trans ((V4_out m c).trans (final_out m c)),
      (h main_arg0 (Finset.mem_filter.mpr ⟨StableHlo.devRef_mem_tcRefs main_arg0, by decide⟩)).trans (V4_main_arg0 m (outs m) c),
      (h main_arg1 (Finset.mem_filter.mpr ⟨StableHlo.devRef_mem_tcRefs main_arg1, by decide⟩)).trans (V4_main_arg1 m (outs m) c),
      (h main_arg2 (Finset.mem_filter.mpr ⟨StableHlo.devRef_mem_tcRefs main_arg2, by decide⟩)).trans (V4_main_arg2 m (outs m) c),
      (h main_arg3 (Finset.mem_filter.mpr ⟨StableHlo.devRef_mem_tcRefs main_arg3, by decide⟩)).trans (V4_main_arg3 m (outs m) c)⟩, by simpa using hb⟩
  · iexact HSI

set_option maxHeartbeats 1000000 in
set_option backward.isDefEq.respectTransparency.types false in
/-- The whole run. -/
theorem run_main : θ_run defs (onTc (main (F := F))) ⟨m, fun _ => 0, ρ⟩
    (fun r => (∀ c : Dev nD, Left m c r.2) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg0 m)) ?_ ?_ O₀ L_of_ne G u₀ ?_
    (T₀ := T₀ m) (Tₙ := Tₙ m) ?_ ?_ (QY m) (read_end m) ?_
  · exact fun c Q => by
      rewrite [main_chain c, Seg.run_eq_chain, show (segs m 𝒱₀ L lv (E m) () (pdats m) (reg0 m) c).map Seg.prog
        = [StableHlo.seq (hostOps0 c), StableHlo.seq hostOps0_1, StableHlo.seq hostOps0_2, Prog.lift (.customCall (Pipeline.entry 0) ())] from rfl]
      dsimp (config := { failIfUnchanged := false }) only
      exact .rfl
  · exact fun c => by simp only [segs, Seg.pipes_host, Seg.pipes_region, Seg.pipes_nil]; decide
  · iintro Hu
    ihave H := (ownU_pair _ _) $$ Hu
    icases H with ⟨HP, HX⟩
    imodintro
    isplitl [HP]
    · iexact HP
    · iapply (show (BI.own (ER (launchOf barCells scCells allToks)) : sProp (𝕄 F)) ⊢ bigSep Finset.univ (G (F := F)) from
        Entails.of_eq (bigSep_atDev0 (F := F) (BI.own (ER (launchOf barCells scCells allToks)))).symm)
      iexact HX
  · exact fun c => ⟨.rfl, .rfl, .rfl, reg0_pre m c, (reg0_post m c).trans (by
      unfold E Tₙ owesAny
      iintro ⟨Hh, Hy, HO⟩
      isplitr [HO]
      · isplitl [Hh] <;> iassumption
      · iexact HO)⟩
  · exact init m ρ
  · intro s h hs
    exact ⟨fun c => (h c).1, sem_eq_zero hs fun c sm hsm => by obtain rfl := unscoped_eq sm hsm; exact (h c).2⟩

end Cert.MoeProof

end
-- ==== Proof.HostVals.lean ====
/-
  The host values the kernel region reads, over the reals: the token rows and the device's experts are the arguments as they
  are given, and the mask marks, per token and local expert, whether the token names that expert and fewer than twelve earlier
  tokens do.
-/
module

public import proofs.«01_k».proof.Proof.Launch
public import Idealize.ShloMosaic.Lib.StableHlo.ReadAt
public import Idealize.ShloMosaic.Lib.Routing.OpsOne
public import Idealize.ShloMosaic.Lib.MatmulPlain

@[expose] public section

noncomputable section

namespace Cert.MoeProof

open Cert.KernelIdeal Cert.KernelIdeal.Gen

open Idealize.ShloMosaic
open Idealize.ShloMosaic.TcCoe
open Idealize.ShloMosaic.Routing (shape0 shape1 shape2 shape3)

variable {F : FTy → Type} [FloatOps F]
variable (m : (ℓ : Loc nD τ sig) → Buf (Elt F) ℓ)

/-! ## Counting tokens -/

/-- The expert number of token `i`, zero past the last token. -/
def eN (ids : IVec S512x1 32) (i : ℕ) : BitVec 32 := if h : i < 512 then ids (ValueIdx.ix2 (⟨i, h⟩ : Fin 512) (0 : Fin 1)) else 0#32

/-- How many tokens before token `n` name the expert `w`. -/
def before (ids : IVec S512x1 32) (w : BitVec 32) (n : ℕ) : ℕ := Nat.count (fun q => eN ids q = w) n

theorem eN_fin (ids : IVec S512x1 32) (i : Fin 512) : eN ids i.val = ids (ValueIdx.ix2 i (0 : Fin 1)) := by
  unfold eN; rw [dif_pos i.isLt]

theorem sum_indicator (Q : ℕ → Prop) [DecidablePred Q] (n : ℕ) :
    ((List.range n).map fun i => if Q i then 1 else 0).sum = Nat.count Q n := by
  induction n with
  | zero => rfl
  | succ n ih => rw [List.range_succ, List.map_append, List.sum_append, ih, Nat.count_succ]; simp

theorem before_le (ids : IVec S512x1 32) (w : BitVec 32) (n : ℕ) : before ids w n ≤ n := Nat.count_le _

/-! ## The columns of the mask -/

/-- The expert number of local expert `j` of device `c`, as the word the host computes. -/
def colw (c : Dev nD) (j : Fin 4) : BitVec 32 := BitVec.ofNat 32 (4 * c.val + j.val)

theorem divrem_word (c : Dev nD) (i : S_.Idx) :
    (Host.remui (Host.divui (constantI S_ 32 (Dev.word c)) (constantI S_ 32 1#32)) (constantI S_ 32 8#32) : IVec S_ 32) i = BitVec.ofNat 32 c.val := by
  have h : ∀ c : Dev nD, (BitVec.ofNat 32 c.val / 1#32 % 8#32 : BitVec 32) = BitVec.ofNat 32 c.val := by decide
  simp only [Host.remui, Host.divui]
  exact h c

theorem col_word (c : Dev nD) (j : Fin 4) :
    IntOp.addi (IntOp.muli (BitVec.ofNat 32 c.val) 4#32) (BitVec.ofNat 32 j.val) = colw c j := by
  fin_cases c <;> fin_cases j <;> rfl

theorem ext_eq (a b : BitVec 32) : BitVec.setWidth 32 (IntOp.cmpi CmpIPredicate.eq a b) = BitVec.ofNat 32 (if a = b then 1 else 0) := by
  by_cases h : a = b
  · subst h; rw [if_pos rfl]; simp [IntOp.cmpi]
  · rw [if_neg h]; simp only [IntOp.cmpi]; rw [beq_eq_false_iff_ne.mpr h]; rfl

theorem V1_oh (c : Dev nD) (n : Fin 512) (j : Fin 4) :
    (V1 m c main_v13 : IVec S512x4 32) (ValueIdx.ix2 n j)
      = (BitVec.ofNat 32 (if eN (m ((c : Thread nD τ).loc main_arg2)) n.val = colw c j then 1 else 0)) := by
  show (StableHlo.after (hostOps0 c) (V0 m c) main_v13 : IVec S512x4 32) (ValueIdx.ix2 n j) = _
  rw [eN_fin, ← col_word c j, ← ext_eq]
  after_reads_at
  rw [id, divrem_word]
  rfl

theorem V3_v21 (c : Dev nD) :
    (V3 m c main_v21 : FVec F S512x4 .f32) = uitofp .f32 (andi (cmpi .sgt (V2 m c main_v13 : IVec S512x4 32) (broadcastInDim S512x4 ![] bcast_S_S512x4 (constantI S_ 32 0#32)))
      (cmpi .slt (subi (V2 m c main_v14 : IVec S512x4 32) (V2 m c main_v13 : IVec S512x4 32)) (broadcastInDim S512x4 ![] bcast_S_S512x4 (constantI S_ 32 12#32)))) := by
  show StableHlo.after hostOps0_2 (V2 m c) main_v21 = _
  generalize V2 m c = V
  after_results_simp

theorem V2_v14 (c : Dev nD) :
    (V2 m c main_v14 : IVec S512x4 32) = Host.reduceWindow IntOp.addi ![512, 1] ![1, 1] ![511, 0] ![0, 0] (V1 m c main_v13 : IVec S512x4 32)
      (broadcastInDim S_ ![] bcast_S_S_ (constantI S_ 32 0#32)) reduceWindows_S512x4_S512x4_w512s1p511_0_w1s1p0_0 h_S_ := by
  show StableHlo.after hostOps0_1 (V1 m c) main_v14 = _
  generalize V1 m c = V
  after_results_simp
  simp -implicitDefEqProofs only [StableHlo.TRef.toBuf, StableHlo.TRef.ofBuf, cast_cast, cast_eq]

theorem V2_oh (c : Dev nD) : (V2 m c main_v13 : IVec S512x4 32) = V1 m c main_v13 := V2_of m c main_v13 (by decide)

/-- The running count at token `n` less the token's own mark: the tokens before `n` that name the column's expert. -/
theorem prior_at (c : Dev nD) (n : Fin 512) (j : Fin 4) :
    subi (V2 m c main_v14 : IVec S512x4 32) (V2 m c main_v13 : IVec S512x4 32) (ValueIdx.ix2 n j)
      = BitVec.ofNat 32 (before (m ((c : Thread nD τ).loc main_arg2)) (colw c j) n.val) := by
  show IntOp.subi ((V2 m c main_v14 : IVec S512x4 32) (ValueIdx.ix2 n j)) ((V2 m c main_v13 : IVec S512x4 32) (ValueIdx.ix2 n j)) = _
  rw [V2_oh, V1_oh, V2_v14]
  rw [Routing.cumsum_rows (R := 512) (Rm1 := 511) (C := 4) rfl (V1 m c main_v13 : IVec S512x4 32)
    (fun i q => if h : q < 4 then (if eN (m ((c : Thread nD τ).loc main_arg2)) i = colw c ⟨q, h⟩ then 1 else 0) else 0)
    (fun i q => by rw [V1_oh, dif_pos q.isLt]) _ rfl]
  simp only [dif_pos j.isLt]
  rw [sum_indicator (fun i => eN (m ((c : Thread nD τ).loc main_arg2)) i = colw c ⟨j.val, j.isLt⟩), Nat.count_succ, BitVec.ofNat_add]
  show _ + BitVec.ofNat 32 (if eN (m ((c : Thread nD τ).loc main_arg2)) n.val = colw c j then 1 else 0) - BitVec.ofNat 32 (if eN (m ((c : Thread nD τ).loc main_arg2)) n.val = colw c j then 1 else 0) = _
  rw [BitVec.add_sub_cancel]
  rfl

theorem gt_zero (p : Prop) [Decidable p] : IntOp.cmpi .sgt (BitVec.ofNat 32 (if p then 1 else 0)) 0#32 = BitVec.ofBool (decide p) := by
  by_cases h : p
  · rw [if_pos h, decide_eq_true h]; rfl
  · rw [if_neg h, decide_eq_false h]; rfl

theorem lt_twelve (k : ℕ) (hk : k < 2 ^ 31) : IntOp.cmpi .slt (BitVec.ofNat 32 k) 12#32 = BitVec.ofBool (decide (k < 12)) := by
  simp only [IntOp.cmpi, BitVec.slt]
  congr 1
  have : (BitVec.ofNat 32 k).toInt = k := by
    rw [BitVec.toInt_eq_toNat_of_lt] <;> rw [BitVec.toNat_ofNat, Nat.mod_eq_of_lt (by omega)]; omega
  rw [this]
  have : (12#32 : BitVec 32).toInt = 12 := by decide
  rw [this]
  by_cases h : k < 12
  · rw [decide_eq_true h, decide_eq_true (by omega)]
  · rw [decide_eq_false h, decide_eq_false (by omega)]

/-- The mask at token `n` and local expert `j` of device `c`. -/
theorem mask_at (m : (ℓ : Loc nD τ sig) → Buf (Elt Ideal) ℓ) (c : Dev nD) (n : Fin 512) (j : Fin 4) :
    (V3 m c main_v21 : FVec Ideal S512x4 .f32) (ValueIdx.ix2 n j)
      = if eN (m ((c : Thread nD τ).loc main_arg2)) n.val = colw c j ∧ before (m ((c : Thread nD τ).loc main_arg2)) (colw c j) n.val < 12 then (1 : EReal) else 0 := by
  rw [V3_v21]
  show FloatOps.uitofp .f32 (IntOp.andi (IntOp.cmpi .sgt ((V2 m c main_v13 : IVec S512x4 32) (ValueIdx.ix2 n j)) 0#32)
    (IntOp.cmpi .slt (subi (V2 m c main_v14 : IVec S512x4 32) (V2 m c main_v13 : IVec S512x4 32) (ValueIdx.ix2 n j)) 12#32)) = _
  rw [prior_at, V2_oh, V1_oh, gt_zero, lt_twelve _ (lt_of_le_of_lt (before_le _ _ _) (by have := n.isLt; omega))]
  by_cases h1 : eN (m ((c : Thread nD τ).loc main_arg2)) n.val = colw c j
  · by_cases h2 : before (m ((c : Thread nD τ).loc main_arg2)) (colw c j) n.val < 12
    · rw [decide_eq_true h1, decide_eq_true h2, if_pos ⟨h1, h2⟩]
      show (((1 : ℕ) : ℝ) : EReal) = 1
      simp
    · rw [decide_eq_true h1, decide_eq_false h2, if_neg (fun h => h2 h.2)]
      show (((0 : ℕ) : ℝ) : EReal) = 0
      simp
  · rw [decide_eq_false h1, if_neg (fun h => h1 h.1)]
    by_cases h2 : before (m ((c : Thread nD τ).loc main_arg2)) (colw c j) n.val < 12
    · rw [decide_eq_true h2]
      show (((0 : ℕ) : ℝ) : EReal) = 0
      simp
    · rw [decide_eq_false h2]
      show (((0 : ℕ) : ℝ) : EReal) = 0
      simp

/-! ## What the region reads of the arguments -/

theorem V3_arg0 (c : Dev nD) : V3 m c main_arg0 = m ((c : Thread nD τ).loc main_arg0) :=
  (V3_of m c main_arg0 (by decide)).trans ((V2_of m c main_arg0 (by decide)).trans (V1_of m c main_arg0 (by decide)))

theorem V3_arg3 (c : Dev nD) : V3 m c main_arg3 = m ((c : Thread nD τ).loc main_arg3) :=
  (V3_of m c main_arg3 (by decide)).trans ((V2_of m c main_arg3 (by decide)).trans (V1_of m c main_arg3 (by decide)))

theorem xstg_eq (c : Dev nD) : xstg m c = m ((c : Thread nD τ).loc main_arg0) := by
  rw [← V3_arg0 m c]
  funext y
  show V3 m c main_arg0 _ = _
  refine congrArg (V3 m c main_arg0) (funext fun a => Fin.ext ?_)
  fin_cases a
  · show 0 * 512 + 1 * (y 0).val = (y 0).val; omega
  · show 0 * 256 + 1 * (y 1).val = (y 1).val; omega

theorem kstg_eq (c : Dev nD) : kstg m c = V3 m c main_v21 := by
  funext y
  show V3 m c main_v21 _ = _
  refine congrArg (V3 m c main_v21) (funext fun a => Fin.ext ?_)
  fin_cases a
  · show 0 * 512 + 1 * (y 0).val = (y 0).val; omega
  · show 0 * 4 + 1 * (y 1).val = (y 1).val; omega

theorem wstg_eq (c : Dev nD) : wstg m c = m ((c : Thread nD τ).loc main_arg3) := by
  rw [← V3_arg3 m c]
  funext y
  show V3 m c main_arg3 _ = _
  refine congrArg (V3 m c main_arg3) (funext fun a => Fin.ext ?_)
  fin_cases a
  · show 0 * 4 + 1 * (y 0).val = (y 0).val; omega
  · show 0 * 256 + 1 * (y 1).val = (y 1).val; omega
  · show 0 * 512 + 1 * (y 2).val = (y 2).val; omega

end Cert.MoeProof
end
-- ==== Proof.KValue.lean ====
/-
  The kernel's result over the reals, entry by entry: a device's share of a token's row is a sum over its four experts, and its
  result is the sum of the eight devices' shares of its own tokens.
-/
module

public import proofs.«01_k».proof.Proof.HostVals
public import Idealize.ShloMosaic.Lib.IdealHost

@[expose] public section

noncomputable section

namespace Cert.MoeProof

open Cert.KernelIdeal Cert.KernelIdeal.Gen

open Idealize.ShloMosaic
open Idealize.ShloMosaic.TcCoe

/-- One expert's product at token `n` and column `q`: the token's row, scaled by its mark, against the expert's column. -/
theorem expert_at (x : FVec Ideal S512x256 .bf16) (k : FVec Ideal S512x1 .f32) (w : FVec Ideal S1x256x512 .bf16) (n : Fin 512) (q : Fin 512) :
    matmul dot_S512x256_S256x512_S512x512_1_0_0_1_n_n none
        (truncf .bf16 (mulf (extf .f32 x bitsLt_bf16_f32) (broadcastTo S512x256 (shapeCast S512x1 k shapeCasts_S512x1_S512x1) broadcasts_S512x1_S512x256)) bitsLt_bf16_f32)
        (shapeCast S256x512 w shapeCasts_S1x256x512_S256x512) (constant S512x512 .f32 0x00000000#32) (ValueIdx.ix2 n q)
      = ∑ t : Fin 256, (x (ValueIdx.ix2 n t) * k (ValueIdx.ix2 n (0 : Fin 1)) * w (ValueIdx.ix3 (0 : Fin 1) t q) : EReal) := by
  refine (Ideal.matmul_plain_apply (M := 512) (K := 256) (N := 512) none _ _ _ n q).trans ?_
  rw [show (constant (F := Ideal) S512x512 FTy.f32 (0#32) (ValueIdx.ix2 n q) : EReal) = 0 from Ideal.ofBits_zero_f32, zero_add]
  refine Finset.sum_congr rfl fun t _ => ?_
  rw [ValueIdx.shapeCast_1ab_ab_apply (a := 256) (b := 512) w shapeCasts_S1x256x512_S256x512 t q]
  refine congrArg (· * (w (ValueIdx.ix3 (0 : Fin 1) t q) : EReal)) ?_
  show (x (ValueIdx.ix2 n t) * broadcastTo S512x256 (shapeCast S512x1 k shapeCasts_S512x1_S512x1) broadcasts_S512x1_S512x256 (ValueIdx.ix2 n t) : EReal) = _
  rw [shapeCast_self]
  rw [broadcastTo_apply k broadcasts_S512x1_S512x256 (ValueIdx.ix2 n t) (ValueIdx.ix2 n (0 : Fin 1)) (fun ax => by fin_cases ax <;> rfl)]

/-- Column `j` of the mask, as a column of its own. -/
theorem col_at (k : KC Ideal) (j : Fin 4) (h : ∀ a, (![0, j.val] : Fin 2 → ℕ) a + S512x1.size a ≤ S512x4.size a) (n : Fin 512) :
    kM.view.readAt (Elt Ideal) (Rect.unit (s := S512x4) ![0, j.val] S512x1.size h).toLoadRect k (ValueIdx.ix2 n (0 : Fin 1)) = k (ValueIdx.ix2 n j) := by
  show k _ = k _
  refine congrArg k (funext fun a => Fin.ext ?_)
  fin_cases a
  · show 0 + 1 * n.val = n.val; omega
  · show j.val + 1 * 0 = j.val; omega

/-- Slab `j` of the weights, as a slab of its own. -/
theorem slab_at (w : WC Ideal) (j : Fin 4) (h : ∀ a, (![j.val, 0, 0] : Fin 3 → ℕ) a + S1x256x512.size a ≤ S4x256x512.size a) (t : Fin 256) (q : Fin 512) :
    wM.view.readAt (Elt Ideal) (Rect.unit (s := S4x256x512) ![j.val, 0, 0] S1x256x512.size h).toLoadRect w (ValueIdx.ix3 (0 : Fin 1) t q) = w (ValueIdx.ix3 j t q) := by
  show w _ = w _
  refine congrArg w (funext fun a => Fin.ext ?_)
  fin_cases a
  · show j.val + 1 * 0 = j.val; omega
  · show 0 + 1 * t.val = t.val; omega
  · show 0 + 1 * q.val = q.val; omega

/-- One expert's term of a device's share. -/
def term (x : FVec Ideal S512x256 .bf16) (k : FVec Ideal S512x4 .f32) (w : FVec Ideal S4x256x512 .bf16) (n q : Fin 512) (j : Fin 4) : EReal :=
  ∑ t : Fin 256, (x (ValueIdx.ix2 n t) * k (ValueIdx.ix2 n j) * w (ValueIdx.ix3 j t q) : EReal)

theorem half_at (x : XC Ideal) (k : KC Ideal) (w : WC Ideal) (n q : Fin 512) :
    (halfOf x k w (ValueIdx.ix2 n q) : EReal) = 0 + term x k w n q 0 + term x k w n q 1 := by
  unfold halfOf
  show (Scalar.ofBits (F := Ideal) .f32 0x00000000#32 + matmul (F := Ideal) (φ₁ := .bf16) (φ₂ := .bf16) dot_S512x256_S256x512_S512x512_1_0_0_1_n_n none _ _ _ (ValueIdx.ix2 n q)
    + matmul (F := Ideal) (φ₁ := .bf16) (φ₂ := .bf16) dot_S512x256_S256x512_S512x512_1_0_0_1_n_n none _ _ _ (ValueIdx.ix2 n q) : EReal) = _
  rw [show (Scalar.ofBits (F := Ideal) .f32 0x00000000#32 : EReal) = 0 from Ideal.ofBits_zero_f32]
  have e0 := expert_at x (kM.view.readAt (Elt Ideal) rk0.toLoadRect k) (wM.view.readAt (Elt Ideal) rw0.toLoadRect w) n q
  have e1 := expert_at x (kM.view.readAt (Elt Ideal) rk1.toLoadRect k) (wM.view.readAt (Elt Ideal) rw1.toLoadRect w) n q
  refine congrArg₂ (· + ·) (congrArg₂ (· + ·) rfl (Eq.trans ?_ (e0.trans ?_))) (Eq.trans ?_ (e1.trans ?_))
  · unfold k0_pay2; rw [shapeCast_self]
  · refine Finset.sum_congr rfl fun t _ => ?_
    exact congrArg₂ (fun a b : EReal => (show EReal from x (ValueIdx.ix2 n t)) * a * b) (col_at k 0 inb_S512x4_S512x1_0_0 n) (slab_at w 0 inb_S4x256x512_S1x256x512_0_0_0 t q)
  · unfold k0_pay2; rw [shapeCast_self]
  · refine Finset.sum_congr rfl fun t _ => ?_
    exact congrArg₂ (fun a b : EReal => (show EReal from x (ValueIdx.ix2 n t)) * a * b) (col_at k 1 inb_S512x4_S512x1_0_1 n) (slab_at w 1 inb_S4x256x512_S1x256x512_1_0_0 t q)

theorem part_at (x : XC Ideal) (k : KC Ideal) (w : WC Ideal) (n q : Fin 512) :
    (partOf x k w (ValueIdx.ix2 n q) : EReal) = ∑ j : Fin 4, term x k w n q j := by
  rw [Fin.sum_univ_four, ← zero_add (term x k w n q 0), ← half_at]
  unfold partOf k0_pay4
  dsimp only
  rw [shapeCast_self]
  show (halfOf x k w (ValueIdx.ix2 n q) + matmul (F := Ideal) (φ₁ := .bf16) (φ₂ := .bf16) dot_S512x256_S256x512_S512x512_1_0_0_1_n_n none _ _ _ (ValueIdx.ix2 n q)
    + matmul (F := Ideal) (φ₁ := .bf16) (φ₂ := .bf16) dot_S512x256_S256x512_S512x512_1_0_0_1_n_n none _ _ _ (ValueIdx.ix2 n q) : EReal) = _
  have e2 := expert_at x (kM.view.readAt (Elt Ideal) rk2.toLoadRect k) (wM.view.readAt (Elt Ideal) rw2.toLoadRect w) n q
  have e3 := expert_at x (kM.view.readAt (Elt Ideal) rk3.toLoadRect k) (wM.view.readAt (Elt Ideal) rw3.toLoadRect w) n q
  refine congrArg₂ (· + ·) (congrArg₂ (· + ·) rfl (Eq.trans ?_ (e2.trans ?_))) (Eq.trans ?_ (e3.trans ?_))
  · unfold k0_pay2; rw [shapeCast_self]
  · refine Finset.sum_congr rfl fun t _ => ?_
    exact congrArg₂ (fun a b : EReal => (show EReal from x (ValueIdx.ix2 n t)) * a * b) (col_at k 2 inb_S512x4_S512x1_0_2 n) (slab_at w 2 inb_S4x256x512_S1x256x512_2_0_0 t q)
  · unfold k0_pay2; rw [shapeCast_self]
  · refine Finset.sum_congr rfl fun t _ => ?_
    exact congrArg₂ (fun a b : EReal => (show EReal from x (ValueIdx.ix2 n t)) * a * b) (col_at k 3 inb_S512x4_S512x1_0_3 n) (slab_at w 3 inb_S4x256x512_S1x256x512_3_0_0 t q)

/-- Slot `s` of the receive buffer, as a slab of its own. -/
theorem slot_at (r : RC Ideal) (s : Fin 8) (h : ∀ a, (![s.val, 0, 0] : Fin 3 → ℕ) a + S1x64x512.size a ≤ S8x64x512.size a) (i : Fin 64) (q : Fin 512) :
    shapeCast S64x512 (rM.view.readAt (Elt Ideal) (Rect.unit (s := S8x64x512) ![s.val, 0, 0] S1x64x512.size h).toLoadRect r) shapeCasts_S1x64x512_S64x512 (ValueIdx.ix2 i q)
      = r (ValueIdx.ix3 s i q) := by
  refine (ValueIdx.shapeCast_1ab_ab_apply (a := 64) (b := 512) _ shapeCasts_S1x64x512_S64x512 i q).trans ?_
  show r _ = r _
  refine congrArg r (funext fun a => Fin.ext ?_)
  fin_cases a
  · show s.val + 1 * 0 = s.val; omega
  · show 0 + 1 * i.val = i.val; omega
  · show 0 + 1 * q.val = q.val; omega

theorem out_of_at (r : FVec Ideal S8x64x512 .f32) (i : Fin 64) (q : Fin 512) :
    (outOf (F := Ideal) r (ValueIdx.ix2 i q) : EReal) = ∑ s : Fin 8, (r (ValueIdx.ix3 s i q) : EReal) := by
  rw [Fin.sum_univ_eight, ← slot_at r 0 inb_S8x64x512_S1x64x512_0_0_0, ← slot_at r 1 inb_S8x64x512_S1x64x512_1_0_0, ← slot_at r 2 inb_S8x64x512_S1x64x512_2_0_0,
    ← slot_at r 3 inb_S8x64x512_S1x64x512_3_0_0, ← slot_at r 4 inb_S8x64x512_S1x64x512_4_0_0, ← slot_at r 5 inb_S8x64x512_S1x64x512_5_0_0,
    ← slot_at r 6 inb_S8x64x512_S1x64x512_6_0_0, ← slot_at r 7 inb_S8x64x512_S1x64x512_7_0_0]
  unfold outOf k0_pay1
  dsimp only
  try rw [shapeCast_self]
  rfl

/-- The eight devices a device receives from, in slot order, are all the devices. -/
theorem sum_frm (c : Dev nD) (f : Dev nD → EReal) : ∑ s : Fin 8, f (frm c s) = ∑ d : Dev nD, f d := by
  refine Fintype.sum_bijective (frm c) ?_ _ _ fun _ => rfl
  revert c; decide

/-- Token row `64 c + i`. -/
abbrev tok (c : Dev nD) (i : Fin 64) : Fin 512 := ⟨64 * c.val + i.val, by have h : c.val < 8 := c.isLt; have := i.isLt; omega⟩

/-- Device `c`'s result at its row `i` and column `q`: every device's share of token `64 c + i`. -/
theorem out_at (m : (ℓ : Loc nD τ sig) → Buf (Elt Ideal) ℓ) (c : Dev nD) (i : Fin 64) (q : Fin 512) :
    (outAt m c (ValueIdx.ix2 i q) : EReal)
      = ∑ d : Dev nD, ∑ j : Fin 4, term (m ((d : Thread nD τ).loc main_arg0)) (V3 m d main_v21) (m ((d : Thread nD τ).loc main_arg3)) (tok c i) q j := by
  unfold outAt
  refine (show (outOf (F := Ideal) (recvd (PP m) c) (ValueIdx.ix2 i q) : EReal) = _ from out_of_at (recvd (PP m) c) i q).trans ?_
  refine (show @Eq EReal _ _ from Eq.trans ?_ (sum_frm c fun d : Dev nD => ∑ j : Fin 4, term (m ((d : Thread nD τ).loc main_arg0)) (V3 m d main_v21) (m ((d : Thread nD τ).loc main_arg3)) (tok c i) q j))
  refine Finset.sum_congr rfl fun s _ => ?_
  show PP m (frm c s) (own c (ValueIdx.ix3 s i q)) = _
  unfold PP
  rw [xstg_eq, kstg_eq, wstg_eq]
  exact part_at _ _ _ (tok c i) q

end Cert.MoeProof
end
-- ==== Proof.Spec.lean ====
/-
  The mathematics both programs compute: a token that names an expert below thirty-two, as one of the first twelve tokens to name
  it, gets its row times that expert's weights, and every other token gets zeros. Here: the kernel's result is the device's
  block of rows of that array.
-/
module

public import proofs.«01_k».proof.Proof.KValue

@[expose] public section

noncomputable section

namespace Cert.MoeProof

open Cert.KernelIdeal Cert.KernelIdeal.Gen

open Idealize.ShloMosaic
open Idealize.ShloMosaic.TcCoe

/-- The weights of all the experts. -/
abbrev S32 : Shape := ⟨3, ![32, 256, 512]⟩

/-- Token `n`'s row against expert `e`'s column `q`. -/
def prodAt (x : FVec Ideal S512x256 .bf16) (W : FVec Ideal S32 .bf16) (n q : Fin 512) (e : Fin 32) : EReal :=
  ∑ t : Fin 256, (show EReal from x (ValueIdx.ix2 n t)) * (show EReal from W (ValueIdx.ix3 e t q))

/-- The result at token `n` and column `q`. -/
def specAt (x : FVec Ideal S512x256 .bf16) (ids : IVec S512x1 32) (W : FVec Ideal S32 .bf16) (n q : Fin 512) : EReal :=
  if h : (eN ids n.val).toNat < 32 then (if before ids (eN ids n.val) n.val < 12 then prodAt x W n q ⟨(eN ids n.val).toNat, h⟩ else 0) else 0

/-- Expert `j` of device `d`, among all the experts. -/
abbrev expertOf (d : Dev nD) (j : Fin 4) : Fin 32 := ⟨4 * d.val + j.val, by have h : d.val < 8 := d.isLt; have := j.isLt; omega⟩

theorem colw_toNat (d : Dev nD) (j : Fin 4) : (colw d j).toNat = 4 * d.val + j.val := by
  unfold colw
  rw [BitVec.toNat_ofNat, Nat.mod_eq_of_lt]
  have h : d.val < 8 := d.isLt
  have := j.isLt
  omega

theorem eq_colw_iff (w : BitVec 32) (d : Dev nD) (j : Fin 4) : w = colw d j ↔ w.toNat = 4 * d.val + j.val := by
  rw [← colw_toNat]; exact ⟨fun h => h ▸ rfl, BitVec.eq_of_toNat_eq⟩

/-- One expert's term of a device's share: the product, where the token is the expert's to compute, else zero. -/
theorem term_at (m : (ℓ : Loc nD τ sig) → Buf (Elt Ideal) ℓ) (x : FVec Ideal S512x256 .bf16) (ids : IVec S512x1 32) (W : FVec Ideal S32 .bf16) (d : Dev nD)
    (hi : m ((d : Thread nD τ).loc main_arg2) = ids)
    (n q : Fin 512) (j : Fin 4) :
    term x (V3 m d main_v21) (Layout.block ⟨3, ![4, 256, 512]⟩ ⟨3, ![32, 256, 512]⟩ 0 8 d W) n q j
      = if (eN ids n.val).toNat = 4 * d.val + j.val ∧ before ids (eN ids n.val) n.val < 12 then prodAt x W n q (expertOf d j) else 0 := by
  unfold term
  have hW : ∀ t : Fin 256, Layout.block ⟨3, ![4, 256, 512]⟩ ⟨3, ![32, 256, 512]⟩ 0 8 d W (by decide) (ValueIdx.ix3 j t q) = W (ValueIdx.ix3 (expertOf d j) t q) := fun t => by
    show W _ = W _
    refine congrArg W (funext fun a => Fin.ext ?_)
    fin_cases a
    · show d.val * 4 + j.val = 4 * d.val + j.val; omega
    · rfl
    · rfl
  by_cases h : eN ids n.val = colw d j ∧ before ids (colw d j) n.val < 12
  · rw [if_pos ⟨(eq_colw_iff _ _ _).mp h.1, h.1 ▸ h.2⟩]
    refine Finset.sum_congr rfl fun t _ => ?_
    rw [hW, mask_at, hi, if_pos h]
    exact congrArg (· * _) (mul_one _)
  · rw [if_neg (fun z : (eN ids n.val).toNat = 4 * d.val + j.val ∧ before ids (eN ids n.val) n.val < 12 =>
      have hz := (eq_colw_iff _ d j).mpr z.1; h ⟨hz, hz ▸ z.2⟩)]
    refine Finset.sum_eq_zero fun t _ => ?_
    rw [mask_at, hi, if_neg h]
    exact (congrArg (· * _) (mul_zero _)).trans (zero_mul _)

/-- At most one expert of one device computes a token. -/
theorem sum_experts (w : ℕ) (p : Prop) [Decidable p] (G : Fin 32 → EReal) :
    ∑ d : Dev nD, ∑ j : Fin 4, (if w = 4 * d.val + j.val ∧ p then G (expertOf d j) else 0)
      = if h : w < 32 then (if p then G ⟨w, h⟩ else 0) else 0 := by
  by_cases h : w < 32
  · rw [dif_pos h]
    have hd : w / 4 < nD := by show w / 4 < 8; omega
    rw [Finset.sum_eq_single (⟨w / 4, hd⟩ : Dev nD)]
    · rw [Finset.sum_eq_single (⟨w % 4, by omega⟩ : Fin 4)]
      · by_cases hp : p
        · rw [if_pos hp, if_pos ⟨by show w = 4 * (w / 4) + w % 4; omega, hp⟩]
          refine congrArg G (Fin.ext ?_)
          show 4 * (w / 4) + w % 4 = w
          omega
        · rw [if_neg hp, if_neg (fun k => hp k.2)]
      · intro j _ hj
        rw [if_neg]
        rintro ⟨k, _⟩
        refine hj (Fin.ext ?_)
        have := j.isLt
        change w = 4 * (w / 4) + j.val at k
        show j.val = w % 4
        omega
      · intro k; exact absurd (Finset.mem_univ _) k
    · intro d _ hd'
      refine Finset.sum_eq_zero fun j _ => ?_
      rw [if_neg]
      rintro ⟨k, _⟩
      refine hd' (Fin.ext ?_)
      have := j.isLt
      show d.val = w / 4
      omega
    · intro k; exact absurd (Finset.mem_univ _) k
  · rw [dif_neg h]
    refine Finset.sum_eq_zero fun d _ => Finset.sum_eq_zero fun j _ => ?_
    rw [if_neg]
    rintro ⟨k, _⟩
    have h8 : d.val < 8 := d.isLt
    have := j.isLt
    omega

/-- Device `c`'s result is its block of rows. -/
theorem out_spec (m : (ℓ : Loc nD τ sig) → Buf (Elt Ideal) ℓ) (x : FVec Ideal S512x256 .bf16) (ids : IVec S512x1 32) (W : FVec Ideal S32 .bf16)
    (hx : ∀ d : Dev nD, m ((d : Thread nD τ).loc main_arg0) = x) (hi : ∀ d : Dev nD, m ((d : Thread nD τ).loc main_arg2) = ids)
    (hW : ∀ d : Dev nD, m ((d : Thread nD τ).loc main_arg3) = Layout.block ⟨3, ![4, 256, 512]⟩ ⟨3, ![32, 256, 512]⟩ 0 8 d W)
    (c : Dev nD) (i : Fin 64) (q : Fin 512) :
    (outAt m c (ValueIdx.ix2 i q) : EReal) = specAt x ids W (tok c i) q := by
  refine (show @Eq EReal _ _ from (out_at m c i q).trans ?_)
  show @Eq EReal _ _
  unfold specAt
  rw [← sum_experts]
  refine Finset.sum_congr rfl fun d _ => Finset.sum_congr rfl fun j _ => ?_
  rw [hx, hW]
  exact term_at m x ids W d (hi d) (tok c i) q j

end Cert.MoeProof
end
-- ==== Proof.RValue.lean ====
/-
  The reference's result over the reals, entry by entry.
-/
module

public import proofs.«01_k».proof.Proof.Spec
public import proofs.«01_k».proof.Proof.Gen.ReferenceIdeal.Run
public import Idealize.ShloMosaic.Lib.StackMember

@[expose] public section

noncomputable section

namespace Cert.MoeProof

open Cert.ReferenceIdeal Cert.ReferenceIdeal.Gen

open Idealize.ShloMosaic
open Idealize.ShloMosaic.TcCoe

/-- The gathered weights of a token that names expert `b` are that expert's weights. -/
theorem gather_at {α : Type} (x : S32x256x512.Idx → α) (idx : IVec S512x1 32) (n : Fin 512) (t : Fin 256) (q : Fin 512) (b : Fin 32)
    (hb : idx (ValueIdx.ix2 n (0 : Fin 1)) = BitVec.ofNat 32 b.val) :
    Host.gather gather_S32x256x512_S512x1_S512x256x512_12_0_n_n_0_1_1256512 x idx (ValueIdx.ix3 n t q) = x (ValueIdx.ix3 b t q) := by
  unfold Host.gather
  refine congrArg x (funext fun a => Fin.ext ?_)
  have hbl := b.isLt
  match a with
  | ⟨0, _⟩ =>
    show GatherDims.start _ (ValueIdx.ix3 n t q) idx 0 + GatherDims.batchCoord _ (ValueIdx.ix3 n t q) 0 + GatherDims.offCoord _ (ValueIdx.ix3 n t q) 0 = b.val
    rw [GatherDims.batchCoord_eq_zero _ _ _ (List.not_mem_nil), GatherDims.offCoord_eq_zero _ _ _ (by decide)]
    simp only [Nat.add_zero]
    unfold GatherDims.start
    rw [dif_pos (by decide)]
    have hsi : ∀ h, gather_S32x256x512_S512x1_S512x256x512_12_0_n_n_0_1_1256512.siIdx (ValueIdx.ix3 n t q) ⟨List.idxOf (0 : Fin 3) [0], h⟩ = ValueIdx.ix2 n (0 : Fin 1) := fun h => by
      funext b'
      apply Fin.ext
      match b' with
      | ⟨0, _⟩ => rfl
      | ⟨1, _⟩ => rfl
    refine (congrArg (fun w : BitVec 32 => min w.toInt.toNat 31) ((congrArg idx (hsi _)).trans hb)).trans ?_
    rw [StableHlo.Predicate.toInt_ofNat_small _ (by omega)]
    show min ((b.val : Int)).toNat 31 = b.val
    omega
  | ⟨1, _⟩ =>
    show GatherDims.start _ (ValueIdx.ix3 n t q) idx 1 + GatherDims.batchCoord _ (ValueIdx.ix3 n t q) 1 + GatherDims.offCoord _ (ValueIdx.ix3 n t q) 1 = t.val
    rw [GatherDims.batchCoord_eq_zero _ _ _ (List.not_mem_nil)]
    unfold GatherDims.start GatherDims.offCoord
    rw [dif_neg (by decide), dif_pos (by decide), Nat.zero_add]
    rfl
  | ⟨2, _⟩ =>
    show GatherDims.start _ (ValueIdx.ix3 n t q) idx 2 + GatherDims.batchCoord _ (ValueIdx.ix3 n t q) 2 + GatherDims.offCoord _ (ValueIdx.ix3 n t q) 2 = q.val
    rw [GatherDims.batchCoord_eq_zero _ _ _ (List.not_mem_nil)]
    unfold GatherDims.start GatherDims.offCoord
    rw [dif_neg (by decide), dif_pos (by decide), Nat.zero_add]
    rfl

/-- A row of tokens against a matrix per token: the sum over the row. -/
theorem rows_at (A : FVec Ideal S512x256 .f32) (B : FVec Ideal S512x256x512 .f32) (n q : Fin 512) :
    (Host.dotGeneral dot_S512x256_S512x256x512_S512x512_1_1_n_2_0_0 none A B (ValueIdx.ix2 n q) : EReal)
      = ∑ t : Fin 256, (show EReal from A (ValueIdx.ix2 n t)) * (show EReal from B (ValueIdx.ix3 n t q)) := by
  show FloatOps.dotGeneral _ none _ A B (ValueIdx.ix2 n q) = _
  rw [Ideal.dotGeneral_apply, ← Equiv.sum_comp (ValueIdx.contrEquiv1 dot_S512x256_S512x256x512_S512x512_1_1_n_2_0_0 256 rfl rfl).symm]
  refine Finset.sum_congr rfl fun c _ => ?_
  have c3 := ValueIdx.contrEquiv1_symm_val dot_S512x256_S512x256x512_S512x512_1_1_n_2_0_0 256 rfl rfl c
  have l3 : dot_S512x256_S512x256x512_S512x512_1_1_n_2_0_0.lhsIdx (ValueIdx.ix2 n q) ((ValueIdx.contrEquiv1 _ 256 rfl rfl).symm c) = ValueIdx.ix2 n c := by
    funext ax; apply Fin.ext
    match ax with
    | ⟨0, _⟩ => simp [DotDims.lhsIdx, dot_S512x256_S512x256x512_S512x512_1_1_n_2_0_0]; rfl
    | ⟨1, _⟩ => simp [DotDims.lhsIdx, dot_S512x256_S512x256x512_S512x512_1_1_n_2_0_0]; exact c3
  have r3 : dot_S512x256_S512x256x512_S512x512_1_1_n_2_0_0.rhsIdx (ValueIdx.ix2 n q) ((ValueIdx.contrEquiv1 _ 256 rfl rfl).symm c) = ValueIdx.ix3 n c q := by
    funext ax; apply Fin.ext
    match ax with
    | ⟨0, _⟩ => simp [DotDims.rhsIdx, dot_S512x256_S512x256x512_S512x512_1_1_n_2_0_0]; rfl
    | ⟨1, _⟩ => simp [DotDims.rhsIdx, dot_S512x256_S512x256x512_S512x512_1_1_n_2_0_0]; exact c3
    | ⟨2, _⟩ => simp [DotDims.rhsIdx, dot_S512x256_S512x256x512_S512x512_1_1_n_2_0_0]; rfl
  rw [l3, r3]

/-! ## The mask -/

theorem count_prefix (Q : ℕ → Prop) [DecidablePred Q] (n : ℕ) : ∀ k, Nat.count (fun i => Q i ∧ i < n) (n + k) = Nat.count Q n := by
  intro k
  rw [Nat.count_add]
  have h1 : Nat.count (fun i => Q (n + i) ∧ n + i < n) k = 0 := by
    rw [Nat.count_eq_card_filter_range, Finset.card_eq_zero, Finset.filter_eq_empty_iff]
    intro i _ h
    omega
  rw [h1, Nat.add_zero, Nat.count_eq_card_filter_range, Nat.count_eq_card_filter_range]
  refine congrArg Finset.card (Finset.filter_congr fun i hi => ?_)
  exact ⟨fun h => h.1, fun h => ⟨h, Finset.mem_range.mp hi⟩⟩

/-- The expert numbers as a vector. -/
abbrev eV (ids : IVec S512x1 32) : IVec S512 32 := shapeCast _ ids shapeCasts_S512x1_S512

theorem eV_at (ids : IVec S512x1 32) (n : Fin 512) : eV ids (ValueIdx.ix1 n) = eN ids n.val := by
  rw [eN_fin]
  exact Routing.cast21 (a := 512) (b := 1) (n := 512) ids shapeCasts_S512x1_S512 n 0 n (by simp)

theorem word_lt (a b : ℕ) (ha : a < 2 ^ 31) (hb : b < 2 ^ 31) : IntOp.cmpi .slt (BitVec.ofNat 32 a) (BitVec.ofNat 32 b) = BitVec.ofBool (decide (a < b)) := by
  simp only [IntOp.cmpi, BitVec.slt]
  rw [StableHlo.Predicate.toInt_ofNat_small _ (by omega), StableHlo.Predicate.toInt_ofNat_small _ (by omega)]
  congr 1
  by_cases h : a < b
  · rw [decide_eq_true h, decide_eq_true (by omega)]
  · rw [decide_eq_false h, decide_eq_false (by omega)]

/-- How many earlier tokens name a token's expert, as the reference counts them. -/
theorem rank_at (ids : IVec S512x1 32) (n : Fin 512) :
    Host.reduce IntOp.addi (extui 32 (andi (cmpi .eq (broadcastInDim S512x512 ![0, 1] bcast_S512x1_S512x512_0_1 (broadcastInDim S512x1 ![0] bcast_S512_S512x1_0 (eV ids))) (broadcastInDim S512x512 ![0, 1] bcast_S1x512_S512x512_0_1 (broadcastInDim S1x512 ![1] bcast_S512_S1x512_1 (eV ids))))
        (cmpi .slt (broadcastInDim S512x512 ![0, 1] bcast_S1x512_S512x512_0_1 (broadcastInDim S1x512 ![1] bcast_S512_S1x512_1 (iotaInDim S512 32 0))) (broadcastInDim S512x512 ![0, 1] bcast_S512x1_S512x512_0_1 (broadcastInDim S512x1 ![0] bcast_S512_S512x1_0 (iotaInDim S512 32 0))))) natLt_1_32)
        (constantI S_ 32 0#32) reducesTo_S512x512_S512_d1 h_S_ (ValueIdx.ix1 n)
      = BitVec.ofNat 32 (before ids (eN ids n.val) n.val) := by
  rw [Routing.reduce_count (n := 512) (m := 512) (by decide) _ natLt_1_32 reducesTo_S512x512_S512_d1 h_S_ n (fun i => eN ids i = eN ids n.val ∧ i < n.val) ?_]
  · have hn : n.val + (512 - n.val) = 512 := by have := n.isLt; omega
    have h := count_prefix (fun i => eN ids i = eN ids n.val) n.val (512 - n.val)
    rw [hn] at h
    rw [h]
    rfl
  · intro k
    show IntOp.andi (IntOp.cmpi .eq (broadcastInDim S512x512 ![0, 1] bcast_S512x1_S512x512_0_1 (broadcastInDim S512x1 ![0] bcast_S512_S512x1_0 (eV ids)) (ValueIdx.ix2 n k))
        (broadcastInDim S512x512 ![0, 1] bcast_S1x512_S512x512_0_1 (broadcastInDim S1x512 ![1] bcast_S512_S1x512_1 (eV ids)) (ValueIdx.ix2 n k)))
      (IntOp.cmpi .slt (broadcastInDim S512x512 ![0, 1] bcast_S1x512_S512x512_0_1 (broadcastInDim S1x512 ![1] bcast_S512_S1x512_1 (iotaInDim S512 32 0)) (ValueIdx.ix2 n k))
        (broadcastInDim S512x512 ![0, 1] bcast_S512x1_S512x512_0_1 (broadcastInDim S512x1 ![0] bcast_S512_S512x1_0 (iotaInDim S512 32 0)) (ValueIdx.ix2 n k))) = 1#1 ↔ _
    rw [Routing.bcRows (n := 512) (m := 512), Routing.bcCols (n := 512) (m := 512), Routing.bcRows (n := 512) (m := 512), Routing.bcCols (n := 512) (m := 512), eV_at, eV_at]
    rw [show (iotaInDim S512 32 0 : IVec S512 32) (ValueIdx.ix1 k) = BitVec.ofNat 32 k.val from rfl, show (iotaInDim S512 32 0 : IVec S512 32) (ValueIdx.ix1 n) = BitVec.ofNat 32 n.val from rfl]
    rw [word_lt _ _ (by have := k.isLt; omega) (by have := n.isLt; omega)]
    by_cases h1 : eN ids n.val = eN ids k.val
    · by_cases h2 : k.val < n.val
      · simp [IntOp.cmpi, IntOp.andi, h1, h2]
      · simp [IntOp.cmpi, IntOp.andi, h1, h2]
    · have h1' : ¬ eN ids k.val = eN ids n.val := fun h => h1 h.symm
      simp only [h1', false_and, iff_false]
      rw [show IntOp.cmpi .eq (eN ids n.val) (eN ids k.val) = 0#1 from by simp only [IntOp.cmpi]; rw [beq_eq_false_iff_ne.mpr h1]; rfl]
      by_cases h2 : k.val < n.val
      · rw [decide_eq_true h2]; decide
      · rw [decide_eq_false h2]; decide

/-- The reference's keep bit of a token. -/
theorem bit_at (w : BitVec 32) (k : ℕ) (hk : k < 2 ^ 31) :
    IntOp.andi (IntOp.andi (IntOp.cmpi .sge w 0#32) (IntOp.cmpi .slt w 32#32)) (IntOp.cmpi .slt (BitVec.ofNat 32 k) 12#32)
      = BitVec.ofBool (decide (w.toNat < 32 ∧ k < 12)) := by
  rw [lt_twelve _ hk]
  have hw : IntOp.andi (IntOp.cmpi .sge w 0#32) (IntOp.cmpi .slt w 32#32) = BitVec.ofBool (decide (w.toNat < 32)) := by
    simp only [IntOp.cmpi, IntOp.andi, BitVec.slt, BitVec.sle]
    rw [show (32#32 : BitVec 32).toInt = 32 from by decide, show (0#32 : BitVec 32).toInt = 0 from by decide]
    have := BitVec.toInt_eq_toNat_cond w
    have := w.isLt
    by_cases h : w.toNat < 32
    · rw [decide_eq_true h, decide_eq_true (by split at * <;> omega), decide_eq_true (by split at * <;> omega)]; rfl
    · rw [decide_eq_false h]
      by_cases h' : 2 * w.toNat < 2 ^ 32
      · rw [decide_eq_false (p := w.toInt < 32) (by rw [if_pos h'] at *; omega)]; simp
      · rw [decide_eq_false (p := 0 ≤ w.toInt) (by rw [if_neg h'] at *; omega)]; simp
  rw [hw]
  by_cases h1 : w.toNat < 32 <;> by_cases h2 : k < 12 <;> simp [h1, h2, IntOp.andi]

/-- What the reference's result array holds. -/
abbrev refOut (x : FVec Ideal S512x256 .bf16) (ids : IVec S512x1 32) (W : FVec Ideal S32x256x512 .bf16) : FVec Ideal S512x512 .f32 :=
  select (broadcastInDim S512x512 ![0, 1] bcast_S512x1_S512x512_0_1 (broadcastInDim S512x1 ![0] bcast_S512_S512x1_0 (andi (andi (cmpi .sge (shapeCast _ ids shapeCasts_S512x1_S512) (broadcastInDim S512 ![] bcast_S_S512 (constantI S_ 32 0#32))) (cmpi .slt (shapeCast _ ids shapeCasts_S512x1_S512) (broadcastInDim S512 ![] bcast_S_S512 (constantI S_ 32 32#32)))) (cmpi .slt (Host.reduce IntOp.addi (extui 32 (andi (cmpi .eq (broadcastInDim S512x512 ![0, 1] bcast_S512x1_S512x512_0_1 (broadcastInDim S512x1 ![0] bcast_S512_S512x1_0 (shapeCast _ ids shapeCasts_S512x1_S512))) (broadcastInDim S512x512 ![0, 1] bcast_S1x512_S512x512_0_1 (broadcastInDim S1x512 ![1] bcast_S512_S1x512_1 (shapeCast _ ids shapeCasts_S512x1_S512)))) (cmpi .slt (broadcastInDim S512x512 ![0, 1] bcast_S1x512_S512x512_0_1 (broadcastInDim S1x512 ![1] bcast_S512_S1x512_1 (iotaInDim S512 32 0))) (broadcastInDim S512x512 ![0, 1] bcast_S512x1_S512x512_0_1 (broadcastInDim S512x1 ![0] bcast_S512_S512x1_0 (iotaInDim S512 32 0))))) natLt_1_32) (constantI S_ 32 0#32) reducesTo_S512x512_S512_d1 h_S_) (broadcastInDim S512 ![] bcast_S_S512 (constantI S_ 32 12#32)))))) (Host.dotGeneral dot_S512x256_S512x256x512_S512x512_1_1_n_2_0_0 none (extf .f32 x bitsLt_bf16_f32) (extf .f32 (Host.gather gather_S32x256x512_S512x1_S512x256x512_12_0_n_n_0_1_1256512 W (broadcastInDim S512x1 ![0] bcast_S512_S512x1_0 (shapeCast _ ids shapeCasts_S512x1_S512))) bitsLt_bf16_f32)) (broadcastInDim S512x512 ![] bcast_S_S512x512 (id (constant S_ .f32 0x00000000#32)))

/-- A selection by a bit per row, zeros where the bit is off. -/
theorem sel_at (c : IVec S512 1) (p : FVec Ideal S512x512 .f32) (n q : Fin 512) :
    (select (broadcastInDim S512x512 ![0, 1] bcast_S512x1_S512x512_0_1 (broadcastInDim S512x1 ![0] bcast_S512_S512x1_0 c)) p
      (broadcastInDim S512x512 ![] bcast_S_S512x512 (id (constant (F := Ideal) S_ .f32 0x00000000#32))) (ValueIdx.ix2 n q) : EReal)
      = Scalar.select (c (ValueIdx.ix1 n)) (p (ValueIdx.ix2 n q)) 0 := by
  rw [← Routing.bcRows (n := 512) (m := 512) bcast_S512_S512x1_0 bcast_S512x1_S512x512_0_1 c n q, ← Ideal.ofBits_zero_f32]
  rfl

/-- The keep bits, from the expert numbers and the counts. -/
theorem keep_at (e r : IVec S512 32) (n : Fin 512) :
    andi (andi (cmpi .sge e (broadcastInDim S512 ![] bcast_S_S512 (constantI S_ 32 0#32))) (cmpi .slt e (broadcastInDim S512 ![] bcast_S_S512 (constantI S_ 32 32#32))))
        (cmpi .slt r (broadcastInDim S512 ![] bcast_S_S512 (constantI S_ 32 12#32))) (ValueIdx.ix1 n)
      = IntOp.andi (IntOp.andi (IntOp.cmpi .sge (e (ValueIdx.ix1 n)) 0#32) (IntOp.cmpi .slt (e (ValueIdx.ix1 n)) 32#32)) (IntOp.cmpi .slt (r (ValueIdx.ix1 n)) 12#32) := rfl

theorem ref_at (x : FVec Ideal S512x256 .bf16) (ids : IVec S512x1 32) (W : FVec Ideal S32x256x512 .bf16) (n q : Fin 512) :
    (refOut x ids W (ValueIdx.ix2 n q) : EReal) = specAt x ids W n q := by
  unfold refOut
  refine (sel_at _ _ n q).trans ?_
  have he : shapeCast S512 ids shapeCasts_S512x1_S512 (ValueIdx.ix1 n) = eN ids n.val := eV_at ids n
  rw [keep_at, rank_at, he, bit_at _ _ (lt_of_le_of_lt (before_le _ _ _) (by have := n.isLt; omega)), rows_at]
  unfold specAt
  by_cases h : (eN ids n.val).toNat < 32
  · rw [dif_pos h]
    by_cases h2 : before ids (eN ids n.val) n.val < 12
    · rw [if_pos h2, decide_eq_true ⟨h, h2⟩]
      refine (if_pos (rfl : BitVec.ofBool true = 1)).trans ?_
      unfold prodAt
      refine Finset.sum_congr rfl fun t _ => ?_
      refine congrArg (fun z : EReal => (show EReal from x (ValueIdx.ix2 n t)) * z) ?_
      refine gather_at W _ n t q ⟨(eN ids n.val).toNat, h⟩ ?_
      rw [Routing.bcCol (n := 512), he]
      exact (BitVec.ofNat_toNat _ _).symm ▸ (BitVec.setWidth_eq _).symm
    · rw [if_neg h2, decide_eq_false (fun k => h2 k.2)]
      rfl
  · rw [dif_neg h, decide_eq_false (fun k => h k.1)]
    rfl

end Cert.MoeProof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.RValue
public import Idealize.ShloMosaic.Adequacy
public import Idealize.ShloMosaic.Init

@[expose] public section

noncomputable section

namespace Cert.Proof

open Idealize.ShloMosaic Idealize.SL.Sem Cert.Kernel

/-- Both programs have one body table. -/
theorem bodies_eq {F : FTy → Type} [FloatOps F] :
    (Cert.Kernel.defs₀ (F := F) : Defs Cert.KernelIdeal.nD Cert.KernelIdeal.τ Cert.KernelIdeal.sig (Elt F) Cert.KernelIdeal.Λ₀) = Cert.KernelIdeal.defs₀ (F := F) := by
  unfold Cert.Kernel.defs₀ Cert.KernelIdeal.defs₀
  refine congrArg Defs.onTc ?_
  funext l
  match l with
  | ⟨0, _⟩ => rfl

theorem defs_eq {F : FTy → Type} [FloatOps F] : Cert.Kernel.defs (F := F) = Cert.KernelIdeal.defs (F := F) :=
  congrArg (Pipeline.defs Cert.KernelIdeal.pcfgs) bodies_eq

/-- The run, for any float values: the arguments unchanged, every counter at zero. -/
theorem frame_text {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (Cert.MoeProof.run_main m ρ)

theorem frame_kernel : Cert.quiescent_Kernel := fun m ρ _ => by
  rw [defs_eq]
  exact frame_text (F := Bits) m ρ

theorem frame_kernelIdeal : Cert.quiescent_KernelIdeal := fun m ρ _ => frame_text (F := Ideal) m ρ

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Device `c`'s result array is block `c` of the reference's. -/
theorem block_eq (m : (ℓ : Loc Cert.KernelIdeal.nD Cert.KernelIdeal.τ Cert.KernelIdeal.sig) → Buf (Elt Ideal) ℓ)
    (x : FVec Ideal Cert.ReferenceIdeal.S512x256 .bf16) (ids : IVec Cert.ReferenceIdeal.S512x1 32) (W : FVec Ideal Cert.ReferenceIdeal.S32x256x512 .bf16)
    (hx : ∀ d : Dev Cert.KernelIdeal.nD, m ((d.tc : Thread Cert.KernelIdeal.nD Cert.KernelIdeal.τ).loc Cert.KernelIdeal.main_arg0) = x)
    (hi : ∀ d : Dev Cert.KernelIdeal.nD, m ((d.tc : Thread Cert.KernelIdeal.nD Cert.KernelIdeal.τ).loc Cert.KernelIdeal.main_arg2) = ids)
    (hW : ∀ d : Dev Cert.KernelIdeal.nD, m ((d.tc : Thread Cert.KernelIdeal.nD Cert.KernelIdeal.τ).loc Cert.KernelIdeal.main_arg3) = Layout.block ⟨3, ![4, 256, 512]⟩ ⟨3, ![32, 256, 512]⟩ 0 8 d W)
    (c : Dev Cert.KernelIdeal.nD) :
    Cert.MoeProof.outAt m c = Layout.block ⟨2, ![64, 512]⟩ ⟨2, ![512, 512]⟩ 0 8 c (Cert.MoeProof.refOut x ids W) := by
  funext y
  obtain ⟨i, q, rfl⟩ : ∃ (i : Fin 64) (q : Fin 512), y = ValueIdx.ix2 i q := ⟨y 0, y 1, ValueIdx.eq_ix2 y⟩
  refine (Cert.MoeProof.out_spec m x ids W hx hi hW c i q).trans ((Cert.MoeProof.ref_at x ids W (Cert.MoeProof.tok c i) q).symm.trans ?_)
  refine congrArg (Cert.MoeProof.refOut x ids W) (funext fun a => Fin.ext ?_)
  fin_cases a
  · show 64 * c.val + i.val = c.val * 64 + i.val; omega
  · rfl

theorem value : Cert.algebraic_KernelIdeal_ReferenceIdeal := fun m ρ m' ρ' _ hm =>
  ⟨Cert.MoeProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun r h c => ⟨(h.1 c).1.trans (block_eq m _ _ _ (fun d => (hm d).1) (fun d => (hm d).2.2.1) (fun d => (hm d).2.2.2) c), (h.1 c).2⟩)
      (Cert.MoeProof.run_main (F := Ideal) m ρ),
    (θ_run Cert.ReferenceIdeal.defs _ _).mono (fun r h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
